-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_labelled_KernelIdeal [hPre_finite_and_labelled_KernelIdeal : Cert.Pre_finite_and_labelled_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_labelled_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_and_labelled_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_and_labelled_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_labelled_ReferenceIdeal [hPre_finite_and_labelled_ReferenceIdeal : Cert.Pre_finite_and_labelled_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_labelled_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_and_labelled_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_and_labelled_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_and_labelled_KernelIdeal [hKernelIdeal : Cert.KernelIdeal.Facts] [hPre_finite_and_labelled_KernelIdeal : Cert.Pre_finite_and_labelled_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_labelled_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_and_labelled_ReferenceIdeal [hReferenceIdeal : Cert.ReferenceIdeal.Facts] [hPre_finite_and_labelled_ReferenceIdeal : Cert.Pre_finite_and_labelled_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_labelled_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_and_labelled_KernelIdeal [hKernelIdeal : Cert.KernelIdeal.Facts] [hReferenceIdeal : Cert.ReferenceIdeal.Facts] [hPre_finite_and_labelled_KernelIdeal : Cert.Pre_finite_and_labelled_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_labelled_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 4096]⟩ ⟨2, ![512, 32768]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v26) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_and_labelled_KernelIdeal : Cert.Pre_finite_and_labelled_KernelIdeal.Facts) (hPre_finite_and_labelled_ReferenceIdeal : Cert.Pre_finite_and_labelled_ReferenceIdeal.Facts),
    quiescent_Kernel (hKernel := hKernel)
    ∧ quiescent_KernelIdeal (hKernelIdeal := hKernelIdeal)
    ∧ quiescent_KernelIdeal_pre_finite_and_labelled_KernelIdeal (hKernelIdeal := hKernelIdeal) (hPre_finite_and_labelled_KernelIdeal := hPre_finite_and_labelled_KernelIdeal)
    ∧ quiescent_ReferenceIdeal (hReferenceIdeal := hReferenceIdeal)
    ∧ quiescent_ReferenceIdeal_pre_finite_and_labelled_ReferenceIdeal (hReferenceIdeal := hReferenceIdeal) (hPre_finite_and_labelled_ReferenceIdeal := hPre_finite_and_labelled_ReferenceIdeal)
    ∧ preserves_Kernel_KernelIdeal
    ∧ algebraic_KernelIdeal_ReferenceIdeal_pre_finite_and_labelled_KernelIdeal (hKernelIdeal := hKernelIdeal) (hReferenceIdeal := hReferenceIdeal) (hPre_finite_and_labelled_KernelIdeal := hPre_finite_and_labelled_KernelIdeal)
-- ==== Pre_finite_and_labelled_KernelIdeal.lean ====
abbrev S256x512 : Shape := ⟨2, ![256, 512]⟩
abbrev S512x4096 : Shape := ⟨2, ![512, 4096]⟩
abbrev S256 : Shape := ⟨1, ![256]⟩
abbrev S_ : Shape := ⟨0, ![]⟩

class Facts : Prop where
  bcast_S_S256x512 : S_.BroadcastsInDim S256x512 (![] : Fin 0 → Fin S256x512.rank)
  bcast_S_S512x4096 : S_.BroadcastsInDim S512x4096 (![] : Fin 0 → Fin S512x4096.rank)
  bcast_S_S256 : S_.BroadcastsInDim S256 (![] : Fin 0 → Fin S256.rank)

variable [Facts]

def fn {F : FTy → Type} [FloatOps F] (main_arg0 : FVec F S256x512 .f32) (main_arg1 : FVec F S512x4096 .f32) (main_arg2 : IVec S256 32) : IVec S256x512 1 × IVec S512x4096 1 × IVec S256 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_v3 : FVec F S512x4096 .f32 := Host.absf main_arg1
  let main_cst_0 : FVec F S_ .f32 := constant S_ .f32 0x7F800000#32
  let main_v4 : FVec F S512x4096 .f32 := broadcastInDim S512x4096 ![] bcast_S_S512x4096 main_cst_0
  let main_v5 : IVec S512x4096 1 := cmpf .olt main_v3 main_v4
  let main_c : IVec S_ 32 := constantI S_ 32 0#32
  let main_v6 : IVec S256 32 := broadcastInDim S256 ![] bcast_S_S256 main_c
  let main_v7 : IVec S256 1 := cmpi .sge main_arg2 main_v6
  let main_c_1 : IVec S_ 32 := constantI S_ 32 32768#32
  let main_v8 : IVec S256 32 := broadcastInDim S256 ![] bcast_S_S256 main_c_1
  let main_v9 : IVec S256 1 := cmpi .slt main_arg2 main_v8
  let main_v10 : IVec S256 1 := andi main_v7 main_v9
  (main_v2, main_v5, main_v10)
-- ==== Pre_finite_and_labelled_ReferenceIdeal.lean ====
abbrev S256x512 : Shape := ⟨2, ![256, 512]⟩
abbrev S512x32768 : Shape := ⟨2, ![512, 32768]⟩
abbrev S256 : Shape := ⟨1, ![256]⟩
abbrev S_ : Shape := ⟨0, ![]⟩

class Facts : Prop where
  bcast_S_S256x512 : S_.BroadcastsInDim S256x512 (![] : Fin 0 → Fin S256x512.rank)
  bcast_S_S512x32768 : S_.BroadcastsInDim S512x32768 (![] : Fin 0 → Fin S512x32768.rank)
  bcast_S_S256 : S_.BroadcastsInDim S256 (![] : Fin 0 → Fin S256.rank)

variable [Facts]

def fn {F : FTy → Type} [FloatOps F] (main_arg0 : FVec F S256x512 .f32) (main_arg1 : FVec F S512x32768 .f32) (main_arg2 : IVec S256 32) : IVec S256x512 1 × IVec S512x32768 1 × IVec S256 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_v3 : FVec F S512x32768 .f32 := Host.absf main_arg1
  let main_cst_0 : FVec F S_ .f32 := constant S_ .f32 0x7F800000#32
  let main_v4 : FVec F S512x32768 .f32 := broadcastInDim S512x32768 ![] bcast_S_S512x32768 main_cst_0
  let main_v5 : IVec S512x32768 1 := cmpf .olt main_v3 main_v4
  let main_c : IVec S_ 32 := constantI S_ 32 0#32
  let main_v6 : IVec S256 32 := broadcastInDim S256 ![] bcast_S_S256 main_c
  let main_v7 : IVec S256 1 := cmpi .sge main_arg2 main_v6
  let main_c_1 : IVec S_ 32 := constantI S_ 32 32768#32
  let main_v8 : IVec S256 32 := broadcastInDim S256 ![] bcast_S_S256 main_c_1
  let main_v9 : IVec S256 1 := cmpi .slt main_arg2 main_v8
  let main_v10 : IVec S256 1 := andi main_v7 main_v9
  (main_v2, main_v5, main_v10)
-- ==== Kernel.lean ====
abbrev S256x512 : Shape := ⟨2, ![256, 512]⟩
abbrev S512x4096 : Shape := ⟨2, ![512, 4096]⟩
abbrev S256 : Shape := ⟨1, ![256]⟩
abbrev S2x256 : Shape := ⟨2, ![2, 256]⟩
abbrev S7x2x256 : Shape := ⟨3, ![7, 2, 256]⟩
abbrev S7 : Shape := ⟨1, ![7]⟩
abbrev S_ : Shape := ⟨0, ![]⟩
abbrev S256x4096 : Shape := ⟨2, ![256, 4096]⟩
abbrev S256x1 : Shape := ⟨2, ![256, 1]⟩
abbrev S4096x1 : Shape := ⟨2, ![4096, 1]⟩
abbrev S1x256 : Shape := ⟨2, ![1, 256]⟩
abbrev S1 : Shape := ⟨1, ![1]⟩
abbrev S1x2x256 : Shape := ⟨3, ![1, 2, 256]⟩
abbrev S7x1x256 : Shape := ⟨3, ![7, 1, 256]⟩
abbrev S7x256 : Shape := ⟨2, ![7, 256]⟩

abbrev nBuf : Space → Nat
  | .hbm => 4
  | .vmem => 6
  | .smem => 0
  | _ => 0

abbrev bufTy : (tb : Table) → Fin (tcTables nBuf tb) → BufTy
  | .hbm, ⟨0, _⟩ => ⟨S256x512, .f32⟩
  | .hbm, ⟨1, _⟩ => ⟨S512x4096, .f32⟩
  | .hbm, ⟨2, _⟩ => ⟨S256, .i32⟩
  | .hbm, ⟨3, _⟩ => ⟨S256, .f32⟩
  | .local _ .vmem, ⟨0, _⟩ => ⟨S256x512, .f32⟩
  | .local _ .vmem, ⟨1, _⟩ => ⟨S512x4096, .f32⟩
  | .local _ .vmem, ⟨2, _⟩ => ⟨S256, .i32⟩
  | .local _ .vmem, ⟨3, _⟩ => ⟨S256, .f32⟩
  | .local _ .vmem, ⟨4, _⟩ => ⟨S2x256, .f32⟩
  | .local _ .vmem, ⟨5, _⟩ => ⟨S7x2x256, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_85 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_74 : BitVec 32 := 1#32
  let v123 : BitVec 32 := Scalar.addi v2 c1_i32_74
  let c8_i32_75 : BitVec 32 := 8#32
  let c0_i32_76 : BitVec 32 := 0#32
  let v124 : BitVec 1 := Scalar.cmpi .eq c8_i32_75 c0_i32_76
  let c1_i32_77 : BitVec 32 := 1#32
  let v125 : BitVec 32 := Scalar.select v124 c1_i32_77 c8_i32_75
  let v126 : BitVec 32 := Scalar.remsi v123 v125
  let c0_i32_79 : BitVec 32 := 0#32
  let v128 : BitVec 1 := Scalar.cmpi .slt v126 c0_i32_79
  let c0_i32_80 : BitVec 32 := 0#32
  let v129 : BitVec 1 := Scalar.cmpi .slt v125 c0_i32_80
  let v130 : BitVec 1 := Scalar.xori v128 v129
  let c0_i32_78 : BitVec 32 := 0#32
  let v127 : BitVec 1 := Scalar.cmpi .ne v126 c0_i32_78
  let v131 : BitVec 1 := Scalar.andi v130 v127
  let v132 : BitVec 32 := Scalar.addi v126 v125
  let v133 : BitVec 32 := Scalar.select v131 v132 v126
  let c1_i32_84 : BitVec 32 := 1#32
  let v134 : BitVec 32 := Scalar.muli v133 c1_i32_84
  let v135 : BitVec 32 := Scalar.addi c0_i32_85 v134
  v135.toNat
def k0_dev9 (d0 : Dev nD) : Nat :=
  let c0_i32_99 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_88 : BitVec 32 := 2#32
  let v142 : BitVec 32 := Scalar.addi v2 c2_i32_88
  let c8_i32_89 : BitVec 32 := 8#32
  let c0_i32_90 : BitVec 32 := 0#32
  let v143 : BitVec 1 := Scalar.cmpi .eq c8_i32_89 c0_i32_90
  let c1_i32_91 : BitVec 32 := 1#32
  let v144 : BitVec 32 := Scalar.select v143 c1_i32_91 c8_i32_89
  let v145 : BitVec 32 := Scalar.remsi v142 v144
  let c0_i32_93 : BitVec 32 := 0#32
  let v147 : BitVec 1 := Scalar.cmpi .slt v145 c0_i32_93
  let c0_i32_94 : BitVec 32 := 0#32
  let v148 : BitVec 1 := Scalar.cmpi .slt v144 c0_i32_94
  let v149 : BitVec 1 := Scalar.xori v147 v148
  let c0_i32_92 : BitVec 32 := 0#32
  let v146 : BitVec 1 := Scalar.cmpi .ne v145 c0_i32_92
  let v150 : BitVec 1 := Scalar.andi v149 v146
  let v151 : BitVec 32 := Scalar.addi v145 v144
  let v152 : BitVec 32 := Scalar.select v150 v151 v145
  let c1_i32_98 : BitVec 32 := 1#32
  let v153 : BitVec 32 := Scalar.muli v152 c1_i32_98
  let v154 : BitVec 32 := Scalar.addi c0_i32_99 v153
  v154.toNat
def k0_dev10 (d0 : Dev nD) : Nat :=
  let c0_i32_113 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_102 : BitVec 32 := 3#32
  let v161 : BitVec 32 := Scalar.addi v2 c3_i32_102
  let c8_i32_103 : BitVec 32 := 8#32
  let c0_i32_104 : BitVec 32 := 0#32
  let v162 : BitVec 1 := Scalar.cmpi .eq c8_i32_103 c0_i32_104
  let c1_i32_105 : BitVec 32 := 1#32
  let v163 : BitVec 32 := Scalar.select v162 c1_i32_105 c8_i32_103
  let v164 : BitVec 32 := Scalar.remsi v161 v163
  let c0_i32_107 : BitVec 32 := 0#32
  let v166 : BitVec 1 := Scalar.cmpi .slt v164 c0_i32_107
  let c0_i32_108 : BitVec 32 := 0#32
  let v167 : BitVec 1 := Scalar.cmpi .slt v163 c0_i32_108
  let v168 : BitVec 1 := Scalar.xori v166 v167
  let c0_i32_106 : BitVec 32 := 0#32
  let v165 : BitVec 1 := Scalar.cmpi .ne v164 c0_i32_106
  let v169 : BitVec 1 := Scalar.andi v168 v165
  let v170 : BitVec 32 := Scalar.addi v164 v163
  let v171 : BitVec 32 := Scalar.select v169 v170 v164
  let c1_i32_112 : BitVec 32 := 1#32
  let v172 : BitVec 32 := Scalar.muli v171 c1_i32_112
  let v173 : BitVec 32 := Scalar.addi c0_i32_113 v172
  v173.toNat
def k0_dev11 (d0 : Dev nD) : Nat :=
  let c0_i32_127 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_116 : BitVec 32 := 4#32
  let v180 : BitVec 32 := Scalar.addi v2 c4_i32_116
  let c8_i32_117 : BitVec 32 := 8#32
  let c0_i32_118 : BitVec 32 := 0#32
  let v181 : BitVec 1 := Scalar.cmpi .eq c8_i32_117 c0_i32_118
  let c1_i32_119 : BitVec 32 := 1#32
  let v182 : BitVec 32 := Scalar.select v181 c1_i32_119 c8_i32_117
  let v183 : BitVec 32 := Scalar.remsi v180 v182
  let c0_i32_121 : BitVec 32 := 0#32
  let v185 : BitVec 1 := Scalar.cmpi .slt v183 c0_i32_121
  let c0_i32_122 : BitVec 32 := 0#32
  let v186 : BitVec 1 := Scalar.cmpi .slt v182 c0_i32_122
  let v187 : BitVec 1 := Scalar.xori v185 v186
  let c0_i32_120 : BitVec 32 := 0#32
  let v184 : BitVec 1 := Scalar.cmpi .ne v183 c0_i32_120
  let v188 : BitVec 1 := Scalar.andi v187 v184
  let v189 : BitVec 32 := Scalar.addi v183 v182
  let v190 : BitVec 32 := Scalar.select v188 v189 v183
  let c1_i32_126 : BitVec 32 := 1#32
  let v191 : BitVec 32 := Scalar.muli v190 c1_i32_126
  let v192 : BitVec 32 := Scalar.addi c0_i32_127 v191
  v192.toNat
def k0_dev12 (d0 : Dev nD) : Nat :=
  let c0_i32_141 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_130 : BitVec 32 := 5#32
  let v199 : BitVec 32 := Scalar.addi v2 c5_i32_130
  let c8_i32_131 : BitVec 32 := 8#32
  let c0_i32_132 : BitVec 32 := 0#32
  let v200 : BitVec 1 := Scalar.cmpi .eq c8_i32_131 c0_i32_132
  let c1_i32_133 : BitVec 32 := 1#32
  let v201 : BitVec 32 := Scalar.select v200 c1_i32_133 c8_i32_131
  let v202 : BitVec 32 := Scalar.remsi v199 v201
  let c0_i32_135 : BitVec 32 := 0#32
  let v204 : BitVec 1 := Scalar.cmpi .slt v202 c0_i32_135
  let c0_i32_136 : BitVec 32 := 0#32
  let v205 : BitVec 1 := Scalar.cmpi .slt v201 c0_i32_136
  let v206 : BitVec 1 := Scalar.xori v204 v205
  let c0_i32_134 : BitVec 32 := 0#32
  let v203 : BitVec 1 := Scalar.cmpi .ne v202 c0_i32_134
  let v207 : BitVec 1 := Scalar.andi v206 v203
  let v208 : BitVec 32 := Scalar.addi v202 v201
  let v209 : BitVec 32 := Scalar.select v207 v208 v202
  let c1_i32_140 : BitVec 32 := 1#32
  let v210 : BitVec 32 := Scalar.muli v209 c1_i32_140
  let v211 : BitVec 32 := Scalar.addi c0_i32_141 v210
  v211.toNat
def k0_dev13 (d0 : Dev nD) : Nat :=
  let c0_i32_155 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_144 : BitVec 32 := 6#32
  let v218 : BitVec 32 := Scalar.addi v2 c6_i32_144
  let c8_i32_145 : BitVec 32 := 8#32
  let c0_i32_146 : BitVec 32 := 0#32
  let v219 : BitVec 1 := Scalar.cmpi .eq c8_i32_145 c0_i32_146
  let c1_i32_147 : BitVec 32 := 1#32
  let v220 : BitVec 32 := Scalar.select v219 c1_i32_147 c8_i32_145
  let v221 : BitVec 32 := Scalar.remsi v218 v220
  let c0_i32_149 : BitVec 32 := 0#32
  let v223 : BitVec 1 := Scalar.cmpi .slt v221 c0_i32_149
  let c0_i32_150 : BitVec 32 := 0#32
  let v224 : BitVec 1 := Scalar.cmpi .slt v220 c0_i32_150
  let v225 : BitVec 1 := Scalar.xori v223 v224
  let c0_i32_148 : BitVec 32 := 0#32
  let v222 : BitVec 1 := Scalar.cmpi .ne v221 c0_i32_148
  let v226 : BitVec 1 := Scalar.andi v225 v222
  let v227 : BitVec 32 := Scalar.addi v221 v220
  let v228 : BitVec 32 := Scalar.select v226 v227 v221
  let c1_i32_154 : BitVec 32 := 1#32
  let v229 : BitVec 32 := Scalar.muli v228 c1_i32_154
  let v230 : BitVec 32 := Scalar.addi c0_i32_155 v229
  v230.toNat
def k0_dev14 (d0 : Dev nD) : Nat :=
  let c0_i32_169 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_158 : BitVec 32 := 7#32
  let v237 : BitVec 32 := Scalar.addi v2 c7_i32_158
  let c8_i32_159 : BitVec 32 := 8#32
  let c0_i32_160 : BitVec 32 := 0#32
  let v238 : BitVec 1 := Scalar.cmpi .eq c8_i32_159 c0_i32_160
  let c1_i32_161 : BitVec 32 := 1#32
  let v239 : BitVec 32 := Scalar.select v238 c1_i32_161 c8_i32_159
  let v240 : BitVec 32 := Scalar.remsi v237 v239
  let c0_i32_163 : BitVec 32 := 0#32
  let v242 : BitVec 1 := Scalar.cmpi .slt v240 c0_i32_163
  let c0_i32_164 : BitVec 32 := 0#32
  let v243 : BitVec 1 := Scalar.cmpi .slt v239 c0_i32_164
  let v244 : BitVec 1 := Scalar.xori v242 v243
  let c0_i32_162 : BitVec 32 := 0#32
  let v241 : BitVec 1 := Scalar.cmpi .ne v240 c0_i32_162
  let v245 : BitVec 1 := Scalar.andi v244 v241
  let v246 : BitVec 32 := Scalar.addi v240 v239
  let v247 : BitVec 32 := Scalar.select v245 v246 v240
  let c1_i32_168 : BitVec 32 := 1#32
  let v248 : BitVec 32 := Scalar.muli v247 c1_i32_168
  let v249 : BitVec 32 := Scalar.addi c0_i32_169 v248
  v249.toNat
abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S256x512 : Shape := ⟨2, ![256, 512]⟩
abbrev S512x32768 : Shape := ⟨2, ![512, 32768]⟩
abbrev S256 : Shape := ⟨1, ![256]⟩
abbrev S256x32768 : Shape := ⟨2, ![256, 32768]⟩
abbrev S_ : Shape := ⟨0, ![]⟩
abbrev S256x1 : Shape := ⟨2, ![256, 1]⟩
abbrev S256x2 : Shape := ⟨2, ![256, 2]⟩

abbrev nBuf : Space → Nat
  | .hbm => 36
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S512x32768, .f32⟩
  | .hbm, ⟨2, _⟩ => ⟨S256, .i32⟩
  | .hbm, ⟨3, _⟩ => ⟨S256x32768, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S256x32768, .f32⟩
  | .hbm, ⟨8, _⟩ => ⟨S256x32768, .f32⟩
  | .hbm, ⟨9, _⟩ => ⟨S256x32768, .f32⟩
  | .hbm, ⟨10, _⟩ => ⟨S_, .f32⟩
  | .hbm, ⟨11, _⟩ => ⟨S256, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256, .f32⟩
  | .hbm, ⟨16, _⟩ => ⟨S256, .i32⟩
  | .hbm, ⟨17, _⟩ => ⟨S_, .i32⟩
  | .hbm, ⟨18, _⟩ => ⟨S256, .i32⟩
  | .hbm, ⟨19, _⟩ => ⟨S256, .i1⟩
  | .hbm, ⟨20, _⟩ => ⟨S_, .i32⟩
  | .hbm, ⟨21, _⟩ => ⟨S256, .i32⟩
  | .hbm, ⟨22, _⟩ => ⟨S256, .i32⟩
  | .hbm, ⟨23, _⟩ => ⟨S256, .i32⟩
  | .hbm, ⟨24, _⟩ => ⟨S_, .i32⟩
  | .hbm, ⟨25, _⟩ => ⟨S256, .i32⟩
  | .hbm, ⟨26, _⟩ => ⟨S256, .i1⟩
  | .hbm, ⟨27, _⟩ => ⟨S_, .i32⟩
  | .hbm, ⟨28, _⟩ => ⟨S256, .i32⟩
  | .hbm, ⟨29, _⟩ => ⟨S256, .i32⟩
  | .hbm, ⟨30, _⟩ => ⟨S256, .i32⟩
  | .hbm, ⟨31, _⟩ => ⟨S256x1, .i32⟩
  | .hbm, ⟨32, _⟩ => ⟨S256x1, .i32⟩
  | .hbm, ⟨33, _⟩ => ⟨S256x2, .i32⟩
  | .hbm, ⟨34, _⟩ => ⟨S256, .f32⟩
  | .hbm, ⟨35, _⟩ => ⟨S256, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_2 : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Proof.Protocol.lean ====
/-
# The exchange of the partial sums, as a protocol

Eight devices each hold one eighth of the vocabulary. Each computes, for its own columns, the sum of the exponentials
of the logits and the logit the label picks, two rows of 256 numbers, and sends the pair to the seven others. Before a
device sends anything it tells every other device that it is inside the kernel, and waits until all seven have told it
the same, on the barrier semaphore.

Distances around the ring are numbered by `Fin 7`: `up k c` is the device `k + 1` places after `c`, `dn k c` the one
`k + 1` places before it. Transfer `k` of device `c` writes slot `k` of the landing buffer of `up k c`; so slot `k` of
`c` is filled by `dn k c`.

The protocol is a schedule of the rounds library, with one round per semaphore cell and duties named by `Fin 7`:

* the barrier cell of `d` has seven duties of one unit. Duty `k` is paid by `up k d`, and hands `d` the slot `k` of
  `up k d` that the transfer `k` of `d` is going to fill;
* the send cell `k` of `c` has one duty, a whole transfer, and gives back the share of the partial sums lent to it;
* the receive cell `k` of `c` has one duty, a whole transfer, paid by `dn k c`, and gives slot `k` of `c` holding the
  partial sums of `dn k c`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.SparseCore.Stream
public import Idealize.ShloMosaic.Lib.ValueLayout
public import Idealize.ShloMosaic.Lib.Tactic

@[expose] public section

noncomputable section

namespace Cert.CrossEntropy

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state of the exchange, its duties named by distances; -/
abbrev UB : Type := URounds (GSem nD τ sig) (Fin 7)
/-- beside that of the staging of the windows. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The machine at launch: any memory, every semaphore at zero. -/
def s₀ : MemSt nD τ sig (Elt F) := ⟨m, fun _ => 0, ρ⟩

/-! ## Distances around the ring -/

/-- The device `k + 1` places after `c`. -/
def up (k : Fin 7) (c : Dev nD) : Dev nD := ⟨(c.val + k.val + 1) % 8, Nat.mod_lt _ (by decide)⟩
/-- The device `k + 1` places before `c`. -/
def dn (k : Fin 7) (c : Dev nD) : Dev nD := ⟨(c.val + (7 - k.val)) % 8, Nat.mod_lt _ (by decide)⟩

theorem dn_up (k : Fin 7) (c : Dev nD) : dn k (up k c) = c := by revert k c; decide
theorem up_dn (k : Fin 7) (c : Dev nD) : up k (dn k c) = c := by revert k c; decide
/-- Going `k + 1` places and then the `7 - k` others comes back. -/
theorem up_rev (k : Fin 7) (c : Dev nD) : up (Fin.rev k) (up k c) = c := by revert k c; decide

/-- The step of `k + 1` places, as a permutation of the devices. -/
def around (k : Fin 7) : Dev nD ≃ Dev nD := ⟨up k, dn k, dn_up k, up_dn k⟩

/-! The devices the kernel's signals and transfers name. -/

theorem sig_dev0 (c : Dev nD) : (⟨k0_dev1 c, k0_dev1_lt c⟩ : Dev nD) = up 0 c := by revert c; decide +kernel
theorem sig_dev1 (c : Dev nD) : (⟨k0_dev2 c, k0_dev2_lt c⟩ : Dev nD) = up 1 c := by revert c; decide +kernel
theorem sig_dev2 (c : Dev nD) : (⟨k0_dev3 c, k0_dev3_lt c⟩ : Dev nD) = up 2 c := by revert c; decide +kernel
theorem sig_dev3 (c : Dev nD) : (⟨k0_dev4 c, k0_dev4_lt c⟩ : Dev nD) = up 3 c := by revert c; decide +kernel
theorem sig_dev4 (c : Dev nD) : (⟨k0_dev5 c, k0_dev5_lt c⟩ : Dev nD) = up 4 c := by revert c; decide +kernel
theorem sig_dev5 (c : Dev nD) : (⟨k0_dev6 c, k0_dev6_lt c⟩ : Dev nD) = up 5 c := by revert c; decide +kernel
theorem sig_dev6 (c : Dev nD) : (⟨k0_dev7 c, k0_dev7_lt c⟩ : Dev nD) = up 6 c := by revert c; decide +kernel
theorem snd_dev0 (c : Dev nD) : (⟨k0_dev8 c, k0_dev8_lt c⟩ : Dev nD) = up 0 c := by revert c; decide +kernel
theorem snd_dev1 (c : Dev nD) : (⟨k0_dev9 c, k0_dev9_lt c⟩ : Dev nD) = up 1 c := by revert c; decide +kernel
theorem snd_dev2 (c : Dev nD) : (⟨k0_dev10 c, k0_dev10_lt c⟩ : Dev nD) = up 2 c := by revert c; decide +kernel
theorem snd_dev3 (c : Dev nD) : (⟨k0_dev11 c, k0_dev11_lt c⟩ : Dev nD) = up 3 c := by revert c; decide +kernel
theorem snd_dev4 (c : Dev nD) : (⟨k0_dev12 c, k0_dev12_lt c⟩ : Dev nD) = up 4 c := by revert c; decide +kernel
theorem snd_dev5 (c : Dev nD) : (⟨k0_dev13 c, k0_dev13_lt c⟩ : Dev nD) = up 5 c := by revert c; decide +kernel
theorem snd_dev6 (c : Dev nD) : (⟨k0_dev14 c, k0_dev14_lt c⟩ : Dev nD) = up 6 c := by revert c; decide +kernel

/-! ## The buffers -/

/-- The staged blocks of `x`, `W` and the labels, and of the result; -/
abbrev xM : Memref sig .tc .vmem S256x512 .f32 := Memref.whole cc0_stg0_0
abbrev wM : Memref sig .tc .vmem S512x4096 .f32 := Memref.whole cc0_stg1_0
abbrev lM : Memref sig .tc .vmem S256 .i32 := Memref.whole cc0_stg2_0
abbrev oM : Memref sig .tc .vmem S256 .f32 := Memref.whole cc0_stg3_0
/-- this device's partial sums; the landing buffer for those of the seven others. -/
abbrev sM : Memref sig .tc .vmem S2x256 .f32 := Memref.whole cc0_scratch0
abbrev gM : Memref sig .tc .vmem S7x2x256 .f32 := Memref.whole cc0_scratch1

theorem inb_slot (k : Fin 7) : ∀ a, (![k.val, 0, 0] : Fin 3 → Nat) a + S1x2x256.size a ≤ S7x2x256.size a := by
  revert k; decide

/-- Slot `k` of the landing buffer. -/
abbrev slotM (k : Fin 7) : Memref sig .tc .vmem S2x256 .f32 :=
  (gM.slice (Rect.unit (s := S7x2x256) ![k.val, 0, 0] S1x2x256.size (inb_slot k)) (fun _ => rfl)).squeeze S2x256 squeezes_S1x2x256_S2x256

/-- Where slot `k` lies in the landing buffer. -/
theorem slot_emb (k : Fin 7) (a : Fin 2) (b : Fin 256) : (slotM k).view.emb (ix2 a b) = ix3 k a b := by
  show (Rect.unit (s := S7x2x256) ![k.val, 0, 0] S1x2x256.size (inb_slot k)).emb
    (Shape.reshapeEquiv squeezes_S1x2x256_S2x256.numel_eq (ix2 a b)) = _
  rw [reshapeEquiv_ix2_1ab]
  funext d
  apply Fin.ext
  match d with
  | ⟨0, _⟩ => show k.val + 1 * 0 = k.val; omega
  | ⟨1, _⟩ => show 0 + 1 * a.val = a.val; omega
  | ⟨2, _⟩ => show 0 + 1 * b.val = b.val; omega

/-- The elements of slot `k` are those whose first coordinate is `k`. -/
theorem mem_slot (k : Fin 7) (i : S7x2x256.Idx) : i ∈ (slotM k).view.set ↔ i 0 = k := by
  rw [View.set, Finset.mem_map]
  constructor
  · rintro ⟨j, -, rfl⟩
    rw [eq_ix2 j]
    exact congrFun (slot_emb k (j 0) (j 1)) 0
  · intro h
    refine ⟨ix2 (i 1) (i 2), Finset.mem_univ _, ?_⟩
    refine (slot_emb k (i 1) (i 2)).trans ?_
    subst h; exact (eq_ix3 i).symm

abbrev slotSet (k : Fin 7) : Finset S7x2x256.Idx := (slotM k).view.set

theorem slots_disjoint (k k' : Fin 7) (h : k ≠ k') : Disjoint (slotSet k) (slotSet k') :=
  Finset.disjoint_left.mpr fun i hi hi' => h (((mem_slot k i).mp hi).symm.trans ((mem_slot k' i).mp hi'))

theorem slots_cover : (Finset.univ : Finset (Fin 7)).biUnion slotSet = Finset.univ :=
  Finset.eq_univ_iff_forall.mpr fun i => Finset.mem_biUnion.mpr ⟨i 0, Finset.mem_univ _, (mem_slot _ i).mpr rfl⟩

/-! ## The semaphores -/

/-- The barrier semaphore; -/
abbrev barS : Sem sig := (SemArray.scalar (sig.barrier 0 rfl) : Sems sig S_).sem
/-- the semaphore on which transfer `k` reports that it has read its source; -/
abbrev sendS (k : Fin 7) : DmaSem sig := ⟨4 + k.val, by have := k.isLt; show 4 + k.val < 18; omega⟩
/-- the semaphore on which slot `k` reports that it is filled. -/
abbrev recvS (k : Fin 7) : DmaSem sig := ⟨11 + k.val, by have := k.isLt; show 11 + k.val < 18; omega⟩

abbrev barCell (c : Dev nD) : GSem nD τ sig := ((c : Thread nD τ), .reg barS)
abbrev sendCell (c : Dev nD) (k : Fin 7) : GSem nD τ sig := ((c : Thread nD τ), .dma (sendS k))
abbrev recvCell (c : Dev nD) (k : Fin 7) : GSem nD τ sig := ((c : Thread nD τ), .dma (recvS k))

/-- The kernel's own semaphores: the seven send ones and the seven receive ones. -/
abbrev Own : Type := Fin 7 ⊕ Fin 7
/-- With the barrier semaphore, all those the exchange uses. -/
abbrev Slot : Type := Unit ⊕ Own

def osem : Own → SemLoc sig := Sum.elim (fun k => .dma (sendS k)) (fun k => .dma (recvS k))
def csem : Slot → SemLoc sig := Sum.elim (fun _ => .reg barS) osem
/-- Which of them a semaphore is, if any. -/
def role : SemLoc sig → Option Slot
  | .reg s => if s = barS then some (.inl ()) else none
  | .dma q => if h : q.val < 4 then none
      else if h' : q.val < 11 then some (.inr (.inl ⟨q.val - 4, by omega⟩))
      else some (.inr (.inr ⟨q.val - 11, by have : q.val < 18 := q.isLt; omega⟩))

theorem role_csem : ∀ i : Slot, role (csem i) = some i := by decide
theorem csem_injective : Function.Injective csem := fun i j h => by
  have := congrArg role h
  rw [role_csem, role_csem] at this
  exact Option.some.inj this

/-- A transfer's credit: the size of the partial sums. -/
abbrev N : ℕ := (sM : Memref sig .tc .vmem S2x256 .f32).view.dmaCredit
theorem N_pos : 0 < N := View.dmaCredit_pos _ (by decide)

/-! ## The contents -/

/-- The blocks the windows stage on device `c`. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))
def lstg (c : Dev nD) : (cc0_stg2_0 : Ref sig .tc).ty.Contents (Elt F) :=
  (win0_2.blk (0 : Fin 1)).view.read (Elt F) ((s₀ m ρ).mem ((c : Thread nD τ).loc main_arg2))

/-- The device's position on the axis, as the kernel computes it. -/
def pos (c : Dev nD) : BitVec 32 := Scalar.remsi (Scalar.divsi (Dev.word c) 1#32) 8#32

/-- The partial sums of device `c`: the two rows, and both at once as it sends them. -/
def expSum (c : Dev nD) : FVec F S256 .f32 := k0_pay4 (k0_pay1 (xstg m ρ c)) (wstg m ρ c)
def picked (c : Dev nD) : FVec F S256 .f32 := k0_pay5 (pos c) (k0_pay1 (xstg m ρ c)) (wstg m ρ c) (lstg m ρ c)
def stats (c : Dev nD) : FVec F S2x256 .f32 := k0_pay6 (pos c) (k0_pay1 (xstg m ρ c)) (wstg m ρ c) (lstg m ρ c)

/-- The landing buffer once all seven have landed. -/
def gathered (c : Dev nD) : FVec F S7x2x256 .f32 := fun i => stats m ρ (dn (i 0) c) (ix2 (i 1) (i 2))
/-- The result on device `c`. -/
def outAt (c : Dev nD) : FVec F S256 .f32 := k0_pay7 (expSum m ρ c) (picked m ρ c) (gathered m ρ c)

/-- The share of the partial sums lent to transfer `k`. -/
def shareOf (k : Fin 7) : PosShare TreeShare := pieceOf fullShare 7 (by decide) k

def slotPts (c : Dev nD) (k : Fin 7) (f : Buf (Elt F) ((slotM k).view.loc (c : Thread nD τ))) : sProp 𝕄 :=
  (slotM k).view.loc (c : Thread nD τ) ↦[(slotM k).view.set]{fullShare} f
def statPts (c : Dev nD) (q : PosShare TreeShare) : sProp 𝕄 :=
  sM.view.loc (c : Thread nD τ) ↦[sM.view.set]{q} stats m ρ c

instance slotPts_storable (c : Dev nD) (k : Fin 7) (f) : BI.Storable (upEmb : UEmb _ 𝕄) (slotPts (F := F) c k f) := by
  unfold slotPts; infer_instance
instance statPts_storable (c : Dev nD) (q) : BI.Storable (upEmb : UEmb _ 𝕄) (statPts (F := F) m ρ c q) := by
  unfold statPts; infer_instance

/-! ## The schedule -/

/-- What the duty `k` of the barrier cell of `d` hands over: the slot that the transfer `k` of `d` fills. -/
def barPay (d : Dev nD) (k : Fin 7) : sProp 𝕄 :=
  iprop((∃ f, slotPts (up k d) k f) ∗ reached ER (recvCell (up k d) k) 0)
/-- What the receive cell `k` of `c` gives: slot `k`, holding the partial sums of `dn k c`. -/
def recvPay (c : Dev nD) (k : Fin 7) : sProp 𝕄 :=
  iprop(∃ f, ⌜(slotM k).view.read (Elt F) f = stats m ρ (dn k c)⌝ ∗ slotPts c k f)
/-- What the send cell `k` of `c` gives back. -/
def sendPay (c : Dev nD) (k : Fin 7) : sProp 𝕄 := statPts m ρ c (shareOf k)

/-- The duties of a cell of the given role; -/
def dutiesOf : Option Slot → Finset (Fin 7)
  | some (.inl _) => Finset.univ
  | some (.inr _) => {0}
  | none => ∅
/-- their amounts; -/
def amountOf : Option Slot → ℕ
  | some (.inl _) => 1
  | _ => N
/-- what they hand over. -/
def payloadOf (c : Dev nD) : Option Slot → Fin 7 → sProp 𝕄
  | some (.inl _), d => barPay c d
  | some (.inr (.inl k)), _ => sendPay m ρ c k
  | some (.inr (.inr k)), _ => recvPay m ρ c k
  | none, _ => iprop(emp)

/-- The schedule: every cell has its one round, round 0. -/
def Rd : Rounds.Schedule (GSem nD τ sig) (Fin 7) 𝕄 where
  duties g r := if r = 0 ∧ g.1.2 = .tc then dutiesOf (role g.2) else ∅
  unitless _ := False
  amount g _ _ := amountOf (role g.2)
  payload g _ d := payloadOf m ρ g.1.1 (role g.2) d
  amount_pos g _ _ _ := by
    cases h : role g.2 with
    | none => exact N_pos
    | some i => cases i with
      | inl _ => exact Nat.one_pos
      | inr _ => exact N_pos

instance Rd_payload_storable (g : GSem nD τ sig) (r : ℕ) (d : Fin 7) :
    BI.Storable (upEmb : UEmb _ 𝕄) ((Rd (F := F) m ρ).payload g r d) := by
  show BI.Storable upEmb (payloadOf m ρ g.1.1 (role g.2) d)
  rcases role g.2 with _ | (_ | (k | k)) <;> dsimp only [payloadOf]
  · infer_instance
  · unfold barPay; infer_instance
  · unfold sendPay; infer_instance
  · unfold recvPay; infer_instance

section Tables
variable (c : Dev nD)

/-- The cell of device `ci.1` in role `ci.2`. -/
abbrev kcell (ci : Dev nD × Slot) : GSem nD τ sig := ((ci.1 : Thread nD τ), csem ci.2)

theorem kcell_injective : Function.Injective kcell := by
  rintro ⟨c, i⟩ ⟨c', j⟩ h
  have h1 : c = c' := congrArg (fun g : GSem nD τ sig => g.1.1) h
  have h2 : i = j := csem_injective (congrArg Prod.snd h)
  rw [h1, h2]

theorem duties_cell (i : Slot) : (Rd (F := F) m ρ).duties (kcell (c, i)) 0 = dutiesOf (some i) := by
  dsimp only [Rd]; rw [if_pos ⟨rfl, rfl⟩, role_csem]
theorem amount_cell (i : Slot) (d : Fin 7) : (Rd (F := F) m ρ).amount (kcell (c, i)) 0 d = amountOf (some i) := by
  dsimp only [Rd]; rw [role_csem]
theorem payload_cell (i : Slot) (d : Fin 7) : (Rd (F := F) m ρ).payload (kcell (c, i)) 0 d = payloadOf m ρ c (some i) d := by
  dsimp only [Rd]; rw [role_csem]
theorem duties_later (g : GSem nD τ sig) : ∀ r, 1 ≤ r → (Rd (F := F) m ρ).duties g r = ∅ :=
  fun r hr => by dsimp only [Rd]; rw [if_neg fun h => by omega]

theorem duty_bar (d : Fin 7) : d ∈ (Rd (F := F) m ρ).duties (barCell c) 0 := by
  rw [show barCell c = kcell (c, .inl ()) from rfl, duties_cell]; exact Finset.mem_univ _
theorem duty_send (k : Fin 7) : (0 : Fin 7) ∈ (Rd (F := F) m ρ).duties (sendCell c k) 0 := by
  rw [show sendCell c k = kcell (c, .inr (.inl k)) from rfl, duties_cell]; exact Finset.mem_singleton_self _
theorem duty_recv (k : Fin 7) : (0 : Fin 7) ∈ (Rd (F := F) m ρ).duties (recvCell c k) 0 := by
  rw [show recvCell c k = kcell (c, .inr (.inr k)) from rfl, duties_cell]; exact Finset.mem_singleton_self _

theorem amount_bar (d : Fin 7) : (Rd (F := F) m ρ).amount (barCell c) 0 d = 1 := amount_cell m ρ c (.inl ()) d
theorem amount_send (k : Fin 7) : (Rd (F := F) m ρ).amount (sendCell c k) 0 0 = N := amount_cell m ρ c (.inr (.inl k)) 0
theorem amount_recv (k : Fin 7) : (Rd (F := F) m ρ).amount (recvCell c k) 0 0 = N := amount_cell m ρ c (.inr (.inr k)) 0

theorem expect_bar : (Rd (F := F) m ρ).expect (barCell c) 0 = 7 := by
  unfold Schedule.expect Schedule.amountOf
  rw [Finset.sum_congr rfl fun d _ => amount_bar m ρ c d, show barCell c = kcell (c, .inl ()) from rfl, duties_cell]
  rfl
theorem expect_own (i : Own) : (Rd (F := F) m ρ).expect (kcell (c, .inr i)) 0 = N := by
  unfold Schedule.expect Schedule.amountOf
  rw [duties_cell]; dsimp only [dutiesOf]
  rw [Finset.sum_singleton, amount_cell]; rfl

theorem payload_bar (d : Fin 7) : (Rd (F := F) m ρ).payload (barCell c) 0 d = barPay c d := payload_cell m ρ c (.inl ()) d
theorem payload_send (k : Fin 7) : (Rd (F := F) m ρ).payload (sendCell c k) 0 0 = sendPay m ρ c k := payload_cell m ρ c (.inr (.inl k)) 0
theorem payload_recv (k : Fin 7) : (Rd (F := F) m ρ).payload (recvCell c k) 0 0 = recvPay m ρ c k := payload_cell m ρ c (.inr (.inr k)) 0

/-- What a whole round gives: the barrier's, the seven slots; -/
theorem rest_bar : bigSep ((Rd (F := F) m ρ).duties (barCell c) 0 \ ∅) (fun d => (Rd (F := F) m ρ).payload (barCell c) 0 d)
    = bigSep Finset.univ fun k : Fin 7 => barPay c k := by
  rw [Finset.sdiff_empty, show barCell c = kcell (c, .inl ()) from rfl, duties_cell]
  exact bigSep_congr fun d _ => payload_bar m ρ c d
/-- another cell's, its one payload. -/
theorem rest_own (i : Own) : bigSep ((Rd (F := F) m ρ).duties (kcell (c, .inr i)) 0 \ ∅) (fun d => (Rd (F := F) m ρ).payload (kcell (c, .inr i)) 0 d)
    = payloadOf m ρ c (some (.inr i)) 0 := by
  rw [Finset.sdiff_empty, duties_cell]; dsimp only [dutiesOf]
  rw [bigSep_singleton, payload_cell]

end Tables

/-! ## What is owed -/

/-- The sum of a family over the distances from `j` on: it loses its term `j` at each step. -/
def tail {T : Type} [AddCommMonoid T] (f : Fin 7 → T) (j : ℕ) : T := ∑ i with j ≤ i.val, f i

theorem filter_step (j : Fin 7) : (Finset.univ.filter fun i : Fin 7 => j.val ≤ i.val) = insert j (Finset.univ.filter fun i => j.val + 1 ≤ i.val) := by
  revert j; decide
theorem filter_fresh (j : Fin 7) : j ∉ (Finset.univ.filter fun i : Fin 7 => j.val + 1 ≤ i.val) := by revert j; decide

theorem tail_step {T : Type} [AddCommMonoid T] (f : Fin 7 → T) (j : Fin 7) : tail f j.val = tail f (j.val + 1) + f j := by
  unfold tail; rw [filter_step, Finset.sum_insert (filter_fresh j), add_comm]
theorem tail_zero {T : Type} [AddCommMonoid T] (f : Fin 7 → T) : tail f 0 = ∑ i, f i := by
  unfold tail; exact Finset.sum_congr (by decide) fun _ _ => rfl
theorem tail_seven {T : Type} [AddCommMonoid T] (f : Fin 7 → T) : tail f 7 = 0 := by
  unfold tail; rw [show (Finset.univ.filter fun i : Fin 7 => 7 ≤ i.val) = ∅ from by decide]; exact Finset.sum_empty

/-- The credit transfer `k` of `c` brings; the unit signal `j` of `c` brings. -/
def recvTally (c : Dev nD) (k : Fin 7) : CellTallies nD τ sig Unit := tallyAt (recvCell (up k c) k) () N
def barTally (c : Dev nD) (j : Fin 7) : CellTallies nD τ sig Unit := tallyAt (barCell (up j c)) () 1

/-- What device `c` owes when it has signalled the distances below `j`; -/
def owedBar (c : Dev nD) (j : ℕ) : CellTallies nD τ sig Unit := tail (recvTally c) 0 + tail (barTally c) j
/-- at launch. -/
def O₀ (c : Dev nD) : CellTallies nD τ sig Unit := owedBar c 0

theorem owedBar_step (c : Dev nD) (j : Fin 7) : owedBar c j.val = owedBar c (j.val + 1) + barTally c j := by
  unfold owedBar; rw [tail_step, add_assoc]
theorem owedBar_seven (c : Dev nD) : owedBar c 7 = tail (recvTally c) 0 := by
  unfold owedBar; rw [tail_seven, add_zero]

def L (g : GSem nD τ sig) : Finset Unit := if g.1.2 = .tc then {()} else ∅
/-- The barrier comes before the transfers; the sends and the staging before both. -/
def lv (g : GSem nD τ sig) (_ : Unit) : ℕ := match role g.2 with
  | some (.inl _) => 1
  | some (.inr (.inr _)) => 2
  | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := by
  show (match role (csem (.inl ())) with | some (.inl _) => 1 | some (.inr (.inr _)) => 2 | _ => 0) = 1
  rw [role_csem]
theorem lv_recv (c : Dev nD) (k : Fin 7) : lv (recvCell c k) () = 2 := by
  show (match role (csem (.inr (.inr k))) with | some (.inl _) => 1 | some (.inr (.inr _)) => 2 | _ => 0) = 2
  rw [role_csem]

theorem tail_apply (f : Fin 7 → CellTallies nD τ sig Unit) (j : ℕ) (g : GSem nD τ sig) (u : Unit) :
    tail f j g u = ∑ i with j ≤ i.val, f i g u := by
  unfold tail; rw [Finset.sum_apply, Finsupp.finset_sum_apply]

theorem pos_of_tail {f : Fin 7 → CellTallies nD τ sig Unit} {j : ℕ} {g : GSem nD τ sig} {u : Unit} (h : 0 < tail f j g u) :
    ∃ i, 0 < f i g u := by
  rw [tail_apply] at h
  obtain ⟨i, -, hi⟩ := Finset.exists_ne_zero_of_sum_ne_zero (Nat.pos_iff_ne_zero.mp h)
  exact ⟨i, Nat.pos_of_ne_zero hi⟩

theorem cell_of_tally {g g' : GSem nD τ sig} {n : ℕ} {u : Unit} (h : 0 < (tallyAt g () n : CellTallies nD τ sig Unit) g' u) : g' = g := by
  rw [tallyAt_apply] at h
  by_contra hn
  rw [if_neg fun h' => hn h'.1] at h
  exact Nat.lt_irrefl 0 h

theorem recv_of_pos {c : Dev nD} {j : ℕ} {g : GSem nD τ sig} {u : Unit} (h : 0 < tail (recvTally c) j g u) :
    ∃ k, g = recvCell (up k c) k := (pos_of_tail h).imp fun _ hi => cell_of_tally hi
theorem cell_of_owed {c : Dev nD} {g : GSem nD τ sig} {u : Unit} (h : 0 < O₀ c g u) :
    (∃ k, g = recvCell (up k c) k) ∨ ∃ j, g = barCell (up j c) := by
  unfold O₀ owedBar at h
  rw [Pi.add_apply, Finsupp.add_apply] at h
  rcases Nat.eq_zero_or_pos (tail (recvTally c) 0 g u) with h0 | h0
  · rw [h0, Nat.zero_add] at h
    exact .inr ((pos_of_tail h).imp fun _ hi => cell_of_tally hi)
  · exact .inl (recv_of_pos h0)

/-- While it owes everything, a device may wait on a cell at level 0; -/
theorem mayWait_stage (c : Dev nD) (sm : SemLoc sig) (hs : lv ((c : Thread nD τ), sm) () = 0) (O : CellTallies nD τ sig Unit) (hO : O = O₀ c ∨ O = 0) :
    (levAts L lv : sProp 𝕄) ⊢ MayWait (c : Thread nD τ) sm () O := by
  rcases hO with rfl | rfl
  · refine MayOwe.of_cut (L := L) (lev := lv) 0 (fun p hp => by rw [Finset.mem_singleton.mp hp, L_tc]; exact Finset.mem_singleton_self _)
      (fun g u hg => by rcases cell_of_owed hg with ⟨_, rfl⟩ | ⟨_, rfl⟩ <;> exact Finset.mem_singleton_self _)
      (fun p hp => by rw [Finset.mem_singleton.mp hp, hs])
      (fun g u hg => by
        rcases cell_of_owed hg with ⟨_, rfl⟩ | ⟨_, rfl⟩
        · rw [lv_recv]; decide
        · rw [lv_bar]; decide)
  · rw [MayWait_zero]; iintro -; iempintro

/-- while it owes its transfers only, on its barrier cell. -/
theorem mayWait_bar (c : Dev nD) : (levAts L lv : sProp 𝕄) ⊢ MayWait (c : Thread nD τ) (.reg barS) () (tail (recvTally c) 0) :=
  MayOwe.of_cut (L := L) (lev := lv) 1 (fun p hp => by rw [Finset.mem_singleton.mp hp, L_tc]; exact Finset.mem_singleton_self _)
    (fun g u hg => by obtain ⟨_, rfl⟩ := recv_of_pos hg; exact Finset.mem_singleton_self _)
    (fun p hp => by rw [Finset.mem_singleton.mp hp]; exact (lv_bar c).le)
    (fun g u hg => by obtain ⟨_, rfl⟩ := recv_of_pos hg; rw [lv_recv]; decide)

end Cert.CrossEntropy

end
-- ==== Proof.Body.lean ====
/-
# One device's run of the kernel

The kernel's body is four runs of seven like steps (signals, transfers, waits for what lands, waits for what was sent)
around the device's own computation. Each kind of step is one lemma at a symbolic distance `k`, over a state that
holds what is still to be used (`todo Φ k`: the resources of the distances from `k` on) and what has been gained
(`gained Φ k`: those of the distances below `k`); the body applies it seven times.
-/
module

public import proofs.«01_k».proof.Proof.Protocol
public import proofs.«01_k».proof.Proof.Gen.KernelIdeal.Points

@[expose] public section

noncomputable section

namespace Cert.CrossEntropy

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## Seven resources, used and gained one by one -/

/-- The resources of the distances from `j` on; -/
def todo (Φ : Fin 7 → sProp 𝕄) (j : ℕ) : sProp 𝕄 := bigSep (Finset.univ.filter fun i : Fin 7 => j ≤ i.val) Φ
/-- of those below `j`. -/
def gained (Φ : Fin 7 → sProp 𝕄) (j : ℕ) : sProp 𝕄 := bigSep (Finset.univ.filter fun i : Fin 7 => i.val < j) Φ

omit [FloatOps F] in
theorem todo_step (Φ : Fin 7 → sProp 𝕄) (j : Fin 7) : todo Φ j.val = iprop(Φ j ∗ todo Φ (j.val + 1)) := by
  unfold todo; rw [filter_step, bigSep_insert (filter_fresh j)]; rfl
omit [FloatOps F] in
theorem todo_zero (Φ : Fin 7 → sProp 𝕄) : todo Φ 0 = bigSep Finset.univ Φ := by
  unfold todo; rw [show (Finset.univ.filter fun i : Fin 7 => 0 ≤ i.val) = Finset.univ from by decide]
omit [FloatOps F] in
theorem gained_step (Φ : Fin 7 → sProp 𝕄) (j : Fin 7) : gained Φ (j.val + 1) = iprop(Φ j ∗ gained Φ j.val) := by
  unfold gained
  rw [show (Finset.univ.filter fun i : Fin 7 => i.val < j.val + 1) = insert j (Finset.univ.filter fun i => i.val < j.val) from by revert j; decide,
    bigSep_insert (by revert j; decide)]
  rfl
omit [FloatOps F] in
theorem gained_zero (Φ : Fin 7 → sProp 𝕄) : gained Φ 0 = iprop(emp) := by
  unfold gained; rw [show (Finset.univ.filter fun i : Fin 7 => i.val < 0) = ∅ from by decide, bigSep_empty]; rfl
omit [FloatOps F] in
theorem gained_seven (Φ : Fin 7 → sProp 𝕄) : gained Φ 7 = bigSep Finset.univ Φ := by
  unfold gained; rw [show (Finset.univ.filter fun i : Fin 7 => i.val < 7) = Finset.univ from by decide]

/-! ## What every device knows -/

/-- Every cell has its invariant, under the names `K`, and has reached its round. -/
def records (K : Dev nD × Slot → ℕ) : sProp 𝕄 :=
  iprop((bigSep Finset.univ fun ci : Dev nD × Slot => cellInv ER (Rd m ρ) (K ci) (kcell ci))
    ∗ bigSep Finset.univ fun ci : Dev nD × Slot => reached ER (kcell ci) 0)

instance records_persistent (K : Dev nD × Slot → ℕ) : BI.Persistent (records (F := F) m ρ K) := by unfold records; infer_instance

theorem inv_of (K : Dev nD × Slot → ℕ) (c : Dev nD) (i : Slot) :
    records m ρ K ⊢ (cellInv ER (Rd (F := F) m ρ) (K (c, i)) (kcell (c, i)) : sProp 𝕄) := by
  have h : (bigSep Finset.univ fun ci : Dev nD × Slot => (cellInv ER (Rd (F := F) m ρ) (K ci) (kcell ci) : sProp 𝕄))
      ⊢ cellInv ER (Rd (F := F) m ρ) (K (c, i)) (kcell (c, i)) := bigSep_elim (Finset.mem_univ (c, i))
  unfold records; iintro ⟨H, -⟩; iapply h; iexact H
theorem reached_of (K : Dev nD × Slot → ℕ) (c : Dev nD) (i : Slot) :
    records m ρ K ⊢ (reached ER (kcell (c, i)) 0 : sProp 𝕄) := by
  have h : (bigSep Finset.univ fun ci : Dev nD × Slot => (reached ER (kcell ci) 0 : sProp 𝕄)) ⊢ reached ER (kcell (c, i)) 0 :=
    bigSep_elim (Finset.mem_univ (c, i))
  unfold records; iintro ⟨-, H⟩; iapply h; iexact H

/-- Owing `O`, having waited on some cells. -/
def owing (c : Dev nD) (O : CellTallies nD τ sig Unit) : sProp 𝕄 := iprop(∃ W, owes (c : Thread nD τ) O W)

/-! ## The four kinds of step -/

section Steps

variable (K : Dev nD × Slot → ℕ) (c : Dev nD)

/-- What signal `j` uses: the duty it pays and the slot it hands over. -/
def sigRes (j : Fin 7) : sProp 𝕄 := iprop(dutyTok ER (barCell (up j c)) 0 (Fin.rev j) ∗ ∃ f, slotPts c (Fin.rev j) f)

/-- Signal `j`, to the device `j + 1` places on. -/
theorem wp_signal_at (j : Fin 7) (n : Dev nD) (hn : n = up j c) (u : ℕ) (hu : u = 1)
    {α : Type} {Q : α → sProp 𝕄} {k : PUnit → Prog (TpuEff nD τ sig (Elt F) Λ₀ .tc) α} :
    iprop(records m ρ K ∗ todo (sigRes c) j.val ∗ owing c (owedBar c j.val))
      ⊢ iprop(((todo (sigRes c) (j.val + 1) ∗ owing c (owedBar c (j.val + 1))) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS u) k) Q) := by
  subst hn hu
  rw [todo_step, owedBar_step]
  unfold owing sigRes barTally
  iintro ⟨#HR, ⟨⟨Htok, %f, Hslot⟩, Hrest⟩, %W, HO⟩ Hk
  iapply (Rounds.wp_signal 𝒱₀ ER (Rd m ρ) (c : Thread nD τ) none (dst := (up j c : Thread nD τ)) (κ := K (up j c, .inl ()))
      (d := Fin.rev j) (duty_bar m ρ (up j c) _) (amount_bar m ρ (up j c) (Fin.rev j)) () (owedBar c (j.val + 1)) rfl) $$ [HO Htok Hslot]
  · isplitr; · iapply (inv_of m ρ K (up j c) (.inl ())); iexact HR
    isplitl [HO]; · iexact HO
    isplitl [Htok]; · iexact Htok
    isplitl [Hslot]
    · rw [payload_bar]; unfold barPay; rw [up_rev]
      isplitl [Hslot]; · iexists f; iexact Hslot
      iapply (reached_of m ρ K c (.inr (.inr (Fin.rev j)))); iexact HR
    · iapply (reached_of m ρ K (up j c) (.inl ())); iexact HR
  iintro HO
  iapply Hk
  isplitl [Hrest]; · iexact Hrest
  iexists W; iexact HO

/-- What transfer `k` uses: the slot it fills, its two duties, its share of the partial sums. -/
def sendRes (j : Fin 7) : sProp 𝕄 :=
  iprop((∃ f, slotPts (up j c) j f) ∗ dutyTok ER (recvCell (up j c) j) 0 0 ∗ dutyTok ER (sendCell c j) 0 0 ∗ statPts m ρ c (shareOf j))
/-- What it leaves: the credit its semaphore will bring. -/
def sentCred (j : Fin 7) : sProp 𝕄 := cred (tallyAt (sendCell c j) () N)

/-- Transfer `j`, to slot `j` of the device `j + 1` places on. -/
theorem wp_send_at (j : Fin 7) (n : Dev nD) (hn : n = up j c)
    {hsc : (slotM j : Memref sig (Dev.tc n : Thread nD τ).2.kind .vmem S2x256 .f32).view.ref.isScScratch = false}
    {hsrc : sM.view.WordExact} {hdst : (slotM j).view.WordExact}
    {hsem : DmaTarget.Typed .vmem (.dma (recvS j)) (.remote (Dev.tc n : Thread nD τ) (slotM j) (.dma (sendS j)) hsc)}
    {α : Type} {Q : α → sProp 𝕄} {k : PUnit → Prog (TpuEff nD τ sig (Elt F) Λ₀ .tc) α} :
    iprop(records m ρ K ∗ todo (sendRes m ρ c) j.val ∗ gained (sentCred c) j.val ∗ owing c (tail (recvTally c) j.val))
      ⊢ iprop(((todo (sendRes m ρ c) (j.val + 1) ∗ gained (sentCred c) (j.val + 1) ∗ owing c (tail (recvTally c) (j.val + 1)))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sM (.remote (Dev.tc n : Thread nD τ) (slotM j) (.dma (sendS j)) hsc) (.dma (recvS j)) hsrc hdst hsem) k) Q) := by
  subst hn
  rw [todo_step, gained_step, tail_step]
  unfold owing sendRes sentCred recvTally
  iintro ⟨#HR, ⟨⟨⟨%f, Hslot⟩, Htr, Hts, Hst⟩, Hrest⟩, Hgot, %W, HO⟩ Hk
  unfold slotPts statPts
  iapply (Rounds.wp_send_pointsTo 𝒱₀ ER (Rd m ρ) (c : Thread nD τ) none (κ₁ := K (c, .inr (.inl j))) (κ₂ := K (up j c, .inr (.inr j)))
      (r₁ := 0) (r₂ := 0) (d₁ := 0) (d₂ := 0) (fd := f) (duty_send m ρ c j) (duty_recv m ρ (up j c) j)
      () () N rfl (amount_send m ρ c j) (amount_recv m ρ (up j c) j) (tail (recvTally c) (j.val + 1)) rfl (W := W)
      (by rw [payload_send]; exact BI.Entails.refl _)
      (by
        rw [payload_recv]; unfold recvPay slotPts; rw [dn_up]
        iintro H; iexists ((slotM j).view.write (Elt F) f (sM.view.read (Elt F) (stats m ρ c)) Finset.univ); isplitr
        · ipureintro; rw [View.read_write_univ]; exact View.read_whole _ _
        · iexact H)) $$ [HO Htr Hts Hst Hslot]
  · isplitr; · iapply (inv_of m ρ K c (.inr (.inl j))); iexact HR
    isplitr; · iapply (inv_of m ρ K (up j c) (.inr (.inr j))); iexact HR
    isplitl [Hst]; · iexact Hst
    isplitl [Hslot]; · iexact Hslot
    isplitl [HO]; · iexact HO
    isplitl [Hts]; · iexact Hts
    isplitr; · iapply (reached_of m ρ K c (.inr (.inl j))); iexact HR
    isplitl [Htr]; · iexact Htr
    iapply (reached_of m ρ K (up j c) (.inr (.inr j))); iexact HR
  iintro ⟨Hcr, HO⟩
  iapply Hk
  isplitl [Hrest]; · iexact Hrest
  isplitl [Hcr Hgot]; · isplitl [Hcr] <;> iassumption
  iexists W; iexact HO

/-- What the wait on an own cell uses: the credit it takes and the cell's position; -/
def waitRes (i : Own) : sProp 𝕄 := iprop(cred (tallyAt (kcell (c, .inr i)) () N) ∗ atPos ER (kcell (c, .inr i)) 0 ∅ 0)
/-- what it leaves: the cell's payload, and the cell closed at zero. -/
def waited (i : Own) : sProp 𝕄 := iprop(payloadOf m ρ c (some (.inr i)) 0 ∗ semVal (kcell (c, .inr i)) 0)

/-- The wait on an own cell, for the whole of its round, nothing being owed. The waits on cells `e 0`, …, `e 6` come in
    turn. -/
theorem wp_wait_at (e : Fin 7 → Own) (j : Fin 7) {w : TpuEff nD τ sig (Elt F) Λ₀ .tc PUnit}
    (hw : ∀ K : PUnit → sProp 𝕄, wpE (defs₀ (F := F)) 𝒱₀ (c : Thread nD τ) none Set.univ w K = waitSpec (c : Thread nD τ) Set.univ (osem (e j)) N K)
    {α : Type} {Q : α → sProp 𝕄} {k : PUnit → Prog (TpuEff nD τ sig (Elt F) Λ₀ .tc) α} :
    iprop(records m ρ K ∗ todo (fun i => waitRes c (e i)) j.val ∗ gained (fun i => waited m ρ c (e i)) j.val ∗ owing c 0)
      ⊢ iprop(((todo (fun i => waitRes c (e i)) (j.val + 1) ∗ gained (fun i => waited m ρ c (e i)) (j.val + 1) ∗ owing c 0)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  rw [todo_step, gained_step]
  unfold owing
  iintro ⟨#HR, ⟨Hres, Hrest⟩, Hgot, %W, HO⟩ Hk
  unfold waitRes
  icases Hres with ⟨Hcr, Hat⟩
  iapply (Rounds.wp_wait_rest_token 𝒱₀ ER (Rd m ρ) (c : Thread nD τ) none (κ := K (c, .inr (e j)))
      hw (Set.mem_univ _) () (O := 0) (W := W) (R := 0) (m := 0) (T := ∅)
      (by rw [Nat.zero_add]; exact (expect_own m ρ c (e j)).symm)) $$ [Hcr HO Hat]
  · isplitr; · iapply (inv_of m ρ K c (.inr (e j))); iexact HR
    isplitl [Hcr]; · iexact Hcr
    isplitl [HO]; · iexact HO
    isplitr; · rw [MayWait_zero]; iempintro
    iexact Hat
  iintro ⟨HO, Hat, -, Hpay⟩
  have hp : (bigSep ((Rd (F := F) m ρ).duties ((c : Thread nD τ), osem (e j)) 0 \ ∅) fun d => (Rd (F := F) m ρ).payload ((c : Thread nD τ), osem (e j)) 0 d)
      ⊢ (payloadOf m ρ c (some (.inr (e j))) 0 : sProp 𝕄) := Entails.of_eq (rest_own m ρ c (e j))
  ihave Hp := hp $$ Hpay
  imod (Rounds.cell_close ER (Rd m ρ) (Set.mem_univ (K (c, .inr (e j)))) (fun h => h) (R := 0 + 1) (duties_later m ρ (kcell (c, .inr (e j))))) $$ [Hat] with Hz
  · isplitr; · iapply (inv_of m ρ K c (.inr (e j))); iexact HR
    iexact Hat
  iapply Hk
  isplitl [Hrest]; · iexact Hrest
  isplitl [Hp Hz Hgot]
  · isplitl [Hp Hz]
    · unfold waited; isplitl [Hp] <;> iassumption
    · iexact Hgot
  iexists _; iexact HO

theorem slot_credit (j : Fin 7) : (slotM j).view.dmaCredit = N := rfl

/-- The wait for what lands in slot `j`; -/
theorem wp_landed_at (j : Fin 7) {h₁ : sM.view.WordExact} {h₂ : (slotM j).view.WordExact}
    {α : Type} {Q : α → sProp 𝕄} {k : PUnit → Prog (TpuEff nD τ sig (Elt F) Λ₀ .tc) α} :
    iprop(records m ρ K ∗ todo (fun i => waitRes c (.inr i)) j.val ∗ gained (fun i => waited m ρ c (.inr i)) j.val ∗ owing c 0)
      ⊢ iprop(((todo (fun i => waitRes c (.inr i)) (j.val + 1) ∗ gained (fun i => waited m ρ c (.inr i)) (j.val + 1) ∗ owing c 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvS j) sM (slotM j) h₁ h₂) k) Q) :=
  wp_wait_at m ρ K c Sum.inr j fun K => by rw [wpE_waitDma2_eq, slot_credit]; rfl
/-- the wait for transfer `j` to have read the partial sums. -/
theorem wp_sent_at (j : Fin 7) {h₁ : (slotM j).view.WordExact} {h₂ : sM.view.WordExact}
    {α : Type} {Q : α → sProp 𝕄} {k : PUnit → Prog (TpuEff nD τ sig (Elt F) Λ₀ .tc) α} :
    iprop(records m ρ K ∗ todo (fun i => waitRes c (.inl i)) j.val ∗ gained (fun i => waited m ρ c (.inl i)) j.val ∗ owing c 0)
      ⊢ iprop(((todo (fun i => waitRes c (.inl i)) (j.val + 1) ∗ gained (fun i => waited m ρ c (.inl i)) (j.val + 1) ∗ owing c 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendS j) (slotM j) sM h₁ h₂) k) Q) :=
  wp_wait_at m ρ K c Sum.inl j fun K => by rw [wpE_waitDma2_eq]; rfl

end Steps

/-! ## The buffers, piece by piece -/

omit [FloatOps F] in
theorem scr1_slots (c : Dev nD) (f : Buf (Elt F) ((c : Thread nD τ).loc cc0_scratch1)) :
    (((c : Thread nD τ).loc cc0_scratch1) ↦{fullShare} f : sProp 𝕄) = bigSep Finset.univ fun k : Fin 7 => slotPts c k f := by
  have h := pointsTo_biUnion (Ix := Unit) (Name := ℕ) (U := UU) (Lvl := ℕ) (Val := Elt F) (ℓ := (c : Thread nD τ).loc cc0_scratch1) (q := fullShare) (f := f)
    Finset.univ slotSet fun k _ k' _ h => slots_disjoint k k' h
  rw [slots_cover] at h
  exact h

/-- The landing buffer, handed over slot by slot in the order of the signals. -/
theorem scr1_give (c : Dev nD) (f : Buf (Elt F) ((c : Thread nD τ).loc cc0_scratch1)) :
    (((c : Thread nD τ).loc cc0_scratch1) ↦{fullShare} f : sProp 𝕄) ⊢ bigSep Finset.univ fun j : Fin 7 => iprop(∃ f, slotPts c (Fin.rev j) f) := by
  rw [scr1_slots, bigSep_univ_equiv Fin.revPerm (fun k : Fin 7 => (slotPts c k f : sProp 𝕄))]
  have h (j : Fin 7) : (slotPts c (Fin.rev j) f : sProp 𝕄) ⊢ iprop(∃ f, slotPts c (Fin.rev j) f) := by iintro H; iexists f; iexact H
  exact bigSep_mono fun j _ => h j

/-- Seven slots that hold what the transfers brought are the landing buffer holding all of it. -/
theorem scr1_gathered (c : Dev nD) :
    (bigSep Finset.univ fun k : Fin 7 => recvPay m ρ c k) ⊢ (((c : Thread nD τ).loc cc0_scratch1) ↦{fullShare} gathered m ρ c : sProp 𝕄) := by
  unfold recvPay
  have : Nonempty (Buf (Elt F) ((c : Thread nD τ).loc cc0_scratch1)) := ⟨gathered m ρ c⟩
  refine (bigSep_exists_pi Finset.univ fun (k : Fin 7) (f : Buf (Elt F) ((c : Thread nD τ).loc cc0_scratch1)) =>
    iprop(⌜(slotM k).view.read (Elt F) f = stats m ρ (dn k c)⌝ ∗ slotPts c k f)).trans ?_
  iintro ⟨%fs, H⟩
  ihave H := (bigSep_pure_sep Finset.univ (fun k : Fin 7 => (slotM k).view.read (Elt F) (fs k) = stats m ρ (dn k c)) fun k => slotPts c k (fs k)) $$ H
  icases H with ⟨%hk, H⟩
  have hj := pointsTo_biUnion_join (Ix := Unit) (Name := ℕ) (U := UU) (Lvl := ℕ) (Val := Elt F) (ℓ := (c : Thread nD τ).loc cc0_scratch1) (q := fullShare)
    Finset.univ slotSet fs (gathered m ρ c) fun k _ k' _ h => slots_disjoint k k' h
  rw [slots_cover] at hj
  have hj' : (bigSep Finset.univ fun k : Fin 7 => slotPts c k (fs k)) ⊢ (iprop(∃ g, ⌜∀ k ∈ Finset.univ, ∀ i ∈ slotSet k, g i = fs k i⌝
      ∗ (((c : Thread nD τ).loc cc0_scratch1) ↦{fullShare} g)) : sProp 𝕄) := hj
  ihave H := hj' $$ H
  icases H with ⟨%g, %hg, H⟩
  have e : g = gathered m ρ c := by
    funext i
    have h1 : g i = fs (i 0) i := hg (i 0) (Finset.mem_univ _) i ((mem_slot _ i).mpr rfl)
    have h2 : (slotM (i 0)).view.read (Elt F) (fs (i 0)) (ix2 (i 1) (i 2)) = stats m ρ (dn (i 0) c) (ix2 (i 1) (i 2)) :=
      congrFun (hk (i 0) (Finset.mem_univ _)) _
    have h3 : (slotM (i 0)).view.read (Elt F) (fs (i 0)) (ix2 (i 1) (i 2)) = fs (i 0) i := by
      show fs (i 0) ((slotM (i 0)).view.emb (ix2 (i 1) (i 2))) = fs (i 0) i
      have e3 : (slotM (i 0)).view.emb (ix2 (i 1) (i 2)) = i := (slot_emb (i 0) (i 1) (i 2)).trans (eq_ix3 i).symm
      rw [e3]
    exact h1.trans (h3.symm.trans h2)
  rw [← e]; iexact H

/-- The partial sums, lent out in seven shares. -/
theorem scr0_shares (c : Dev nD) :
    (((c : Thread nD τ).loc cc0_scratch0) ↦{fullShare} stats m ρ c : sProp 𝕄) = bigSep Finset.univ fun k : Fin 7 => statPts m ρ c (shareOf k) := by
  have h (q : PosShare TreeShare) : statPts m ρ c q = (((c : Thread nD τ).loc cc0_scratch0) ↦{q} stats m ρ c : sProp 𝕄) := by
    unfold statPts; rw [View.set_whole]
  have hs := pointsTo_piecesOf (Ix := Unit) (Name := ℕ) (U := UU) (Lvl := ℕ) (Val := Elt F) (ℓ := (c : Thread nD τ).loc cc0_scratch0)
    Finset.univ (stats m ρ c) (o := 7) (by decide) fullShare
  simp only [h]
  exact hs

/-! ## The pipeline's data -/

/-- The duties device `c` pays and its positions. -/
def linear (c : Dev nD) : sProp 𝕄 :=
  iprop((bigSep Finset.univ fun j : Fin 7 => dutyTok ER (barCell (up j c)) 0 (Fin.rev j))
    ∗ (bigSep Finset.univ fun k : Fin 7 => dutyTok ER (recvCell (up k c) k) 0 0)
    ∗ (bigSep Finset.univ fun k : Fin 7 => dutyTok ER (sendCell c k) 0 0)
    ∗ atPos ER (barCell c) 0 ∅ 0
    ∗ (bigSep Finset.univ fun k : Fin 7 => atPos ER (sendCell c k) 0 ∅ 0)
    ∗ (bigSep Finset.univ fun k : Fin 7 => atPos ER (recvCell c k) 0 ∅ 0))
/-- What device `c`'s body starts from: what it knows, the duties and positions, the credit its cells will bring it, and
    the order of the cells. -/
def start (c : Dev nD) : sProp 𝕄 :=
  iprop((∃ K, records m ρ K ∗ linear c) ∗ cred (tallyAt (barCell c) () 7)
    ∗ (bigSep Finset.univ fun k : Fin 7 => cred (tallyAt (recvCell c k) () N)) ∗ levAts L lv)
def Φ₀ (c : Dev nD) : sProp 𝕄 :=
  iprop(start m ρ c ∗ (∃ f, ((c : Thread nD τ).loc cc0_scratch0) ↦{fullShare} f) ∗ ∃ f, ((c : Thread nD τ).loc cc0_scratch1) ↦{fullShare} f)
/-- What it ends with: its two buffers whole, every cell of the exchange closed at zero. -/
def Φ₁ (c : Dev nD) : sProp 𝕄 :=
  iprop((((c : Thread nD τ).loc cc0_scratch0) ↦{fullShare} stats m ρ c) ∗ (((c : Thread nD τ).loc cc0_scratch1) ↦{fullShare} gathered m ρ c)
    ∗ semVal (barCell c) 0 ∗ bigSep Finset.univ fun i : Own => semVal (kcell (c, .inr i)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => lstg m ρ c
    | ⟨3, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

/-- The one point of the grid. -/
abbrev t₀ : Fin cfg0.N := t0_0

omit [FloatOps F] in
theorem owns_staged (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## Before and after each run of seven steps -/

omit [FloatOps F] in
/-- Two families of seven are the family of their pairs, none of it used yet. -/
theorem todo_pair (Φ Ψ : Fin 7 → sProp 𝕄) : iprop(bigSep Finset.univ Φ ∗ bigSep Finset.univ Ψ) ⊢ todo (fun k => iprop(Φ k ∗ Ψ k)) 0 := by
  rw [todo_zero, bigSep_sep']

theorem signals_ready (c : Dev nD) (f : Buf (Elt F) ((c : Thread nD τ).loc cc0_scratch1)) :
    iprop((bigSep Finset.univ fun j : Fin 7 => dutyTok ER (barCell (up j c)) 0 (Fin.rev j)) ∗ (((c : Thread nD τ).loc cc0_scratch1) ↦{fullShare} f))
      ⊢ (todo (sigRes c) 0 : sProp 𝕄) := by
  iintro ⟨Ht, H⟩
  ihave Hs := (scr1_give c f) $$ H
  iapply (todo_pair (fun j : Fin 7 => dutyTok ER (barCell (up j c)) 0 (Fin.rev j)) fun j => iprop(∃ f, slotPts c (Fin.rev j) f))
  isplitl [Ht] <;> iassumption

/-- The seven slots the barrier brings, the duties and the shares of the partial sums are what the transfers use. -/
theorem sends_ready (c : Dev nD) :
    iprop((bigSep Finset.univ fun k : Fin 7 => barPay c k) ∗ (bigSep Finset.univ fun k : Fin 7 => dutyTok ER (recvCell (up k c) k) 0 0)
        ∗ (bigSep Finset.univ fun k : Fin 7 => dutyTok ER (sendCell c k) 0 0) ∗ (((c : Thread nD τ).loc cc0_scratch0) ↦{fullShare} stats m ρ c))
      ⊢ (todo (sendRes m ρ c) 0 : sProp 𝕄) := by
  rw [scr0_shares, ← bigSep_sep', ← bigSep_sep', ← bigSep_sep', todo_zero]
  have h (k : Fin 7) : iprop(barPay c k ∗ dutyTok ER (recvCell (up k c) k) 0 0 ∗ dutyTok ER (sendCell c k) 0 0 ∗ statPts m ρ c (shareOf k))
      ⊢ (sendRes m ρ c k : sProp 𝕄) := by
    unfold barPay sendRes; iintro ⟨⟨Hs, -⟩, H⟩; isplitl [Hs] <;> iassumption
  exact bigSep_mono fun k _ => h k

/-- After the waits for what lands, the landing buffer is full; -/
theorem landed_all (c : Dev nD) :
    gained (fun k => waited m ρ c (.inr k)) 7 ⊢ (iprop((((c : Thread nD τ).loc cc0_scratch1) ↦{fullShare} gathered m ρ c)
      ∗ bigSep Finset.univ fun k : Fin 7 => semVal (recvCell c k) 0) : sProp 𝕄) := by
  rw [gained_seven]; unfold waited
  rw [bigSep_sep']
  iintro ⟨Hp, Hz⟩
  isplitl [Hp]
  · iapply (scr1_gathered m ρ c); iexact Hp
  · iexact Hz
/-- after those for what was sent, the partial sums are whole again. -/
theorem sent_all (c : Dev nD) :
    gained (fun k => waited m ρ c (.inl k)) 7 ⊢ (iprop((((c : Thread nD τ).loc cc0_scratch0) ↦{fullShare} stats m ρ c)
      ∗ bigSep Finset.univ fun k : Fin 7 => semVal (sendCell c k) 0) : sProp 𝕄) := by
  rw [gained_seven, scr0_shares]; unfold waited
  rw [bigSep_sep']
  iintro ⟨Hp, Hz⟩
  isplitl [Hp]
  · iexact Hp
  · iexact Hz

omit [FloatOps F] in
theorem own_closed (c : Dev nD) : iprop((bigSep Finset.univ fun k : Fin 7 => semVal (sendCell c k) 0) ∗ bigSep Finset.univ fun k : Fin 7 => semVal (recvCell c k) 0)
    ⊢ (bigSep Finset.univ fun i : Own => semVal (kcell (c, .inr i)) 0 : sProp 𝕄) :=
  Entails.of_eq (bigSep_univ_sum fun i : Own => semVal (kcell (c, .inr i)) 0).symm

/-! ## The body -/

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

abbrev rX : Rect S256x512 := Rect.unit (s := S256x512) ![0, 0] S256x512.size inb_S256x512_S256x512_0_0
abbrev rW : Rect S512x4096 := Rect.unit (s := S512x4096) ![0, 0] S512x4096.size inb_S512x4096_S512x4096_0_0
abbrev rL : Rect S256 := Rect.unit (s := S256) ![0] S256.size inb_S256_S256_0
abbrev rS : Rect S2x256 := Rect.unit (s := S2x256) ![0, 0] S2x256.size inb_S2x256_S2x256_0_0
abbrev rG : Rect S7x2x256 := Rect.unit (s := S7x2x256) ![0, 0, 0] S7x2x256.size inb_S7x2x256_S7x2x256_0_0_0

omit [FloatOps F] in
theorem read_x (f : (cc0_stg0_0 : Ref sig .tc).ty.Contents (Elt F)) : xM.view.readAt (Elt F) rX.toLoadRect f = f :=
  Memref.readAt_unit_zero (Elt F) cc0_stg0_0 hz2 _ f
omit [FloatOps F] in
theorem read_w (f : (cc0_stg1_0 : Ref sig .tc).ty.Contents (Elt F)) : wM.view.readAt (Elt F) rW.toLoadRect f = f :=
  Memref.readAt_unit_zero (Elt F) cc0_stg1_0 hz2 _ f
omit [FloatOps F] in
theorem read_l (f : (cc0_stg2_0 : Ref sig .tc).ty.Contents (Elt F)) : lM.view.readAt (Elt F) rL.toLoadRect f = f :=
  Memref.readAt_unit_zero (Elt F) cc0_stg2_0 hz1 _ f
omit [FloatOps F] in
theorem read_g (f : (cc0_scratch1 : Ref sig .tc).ty.Contents (Elt F)) : gM.view.readAt (Elt F) rG.toLoadRect f = f :=
  Memref.readAt_unit_zero (Elt F) cc0_scratch1 hz3 _ f
omit [FloatOps F] in
theorem write_s (f w : (cc0_scratch0 : Ref sig .tc).ty.Contents (Elt F)) : (sM.access rS : View sig .tc _ _ _).write (Elt F) f w Finset.univ = w :=
  Memref.write_access_unit_zero_univ (Elt F) cc0_scratch0 hz2 _ f w
omit [FloatOps F] in
theorem write_o (f w : (cc0_stg3_0 : Ref sig .tc).ty.Contents (Elt F)) : (oM.access rL : View sig .tc _ _ _).write (Elt F) f w Finset.univ = w :=
  Memref.write_access_unit_zero_univ (Elt F) cc0_stg3_0 hz1 _ f w

/-- A staging buffer of device `c` holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

def bodyPost (c : Dev nD) : sProp 𝕄 :=
  iprop(Φ₁ m ρ c ∗ (dats m ρ 0 c).owesAt () t₀.succ ∗ stg c cc0_stg0_0 (xstg m ρ c) ∗ stg c cc0_stg1_0 (wstg m ρ c)
    ∗ stg c cc0_stg2_0 (lstg m ρ c) ∗ stg c cc0_stg3_0 (outAt m ρ c))

set_option maxHeartbeats 4000000 in
/-- The body of device `c`, one rule per effect in program order. -/
theorem sound_body (c : Dev nD) (Kt : PUnit → sProp 𝕄) :
    iprop(bodyPre m ρ c ∗ (bodyPost m ρ c -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            cc0_scratch2 cc0_scratch3) Kt := by
  simp only [cc0_body_eq_skeleton]; unfold cc0_body_skel
  simp only [k0_part11_eq_skeleton]; unfold k0_part11_skel
  simp only [k0_part10_eq_skeleton]; unfold k0_part10_skel
  simp only [k0_part9_eq_skeleton]; unfold k0_part9_skel
  simp only [k0_part8_eq_skeleton]; unfold k0_part8_skel
  simp only [k0_part7_eq_skeleton]; unfold k0_part7_skel
  simp only [k0_part6_eq_skeleton]; unfold k0_part6_skel
  simp only [k0_part5_eq_skeleton]; unfold k0_part5_skel
  simp only [k0_part4_eq_skeleton]; unfold k0_part4_skel
  simp only [k0_part3_eq_skeleton]; unfold k0_part3_skel
  simp only [k0_part2_eq_skeleton]; unfold k0_part2_skel
  simp only [k0_part1_eq_skeleton]; unfold k0_part1_skel
  simp only [semSignalWord, semWaitWord, Prog.lift, Prog.bind_op, Prog.bind_ret, Prog.pure_eq_ret, wp_deviceId]
  unfold bodyPre Φ₀ start linear
  iintro ⟨⟨⟨⟨⟨%K, #HR, HtB, HtR, HtS, HatB, HatS, HatR⟩, HcB, HcR, #Hlev⟩, ⟨%f0, Hst⟩, ⟨%f1, Hland⟩⟩,
    Ho, ⟨%d0, %g0, %hg0, Hx⟩, ⟨%d1, %g1, %hg1, Hw⟩, ⟨%d2, %g2, %hg2, Hl⟩, ⟨%d3, %g3, %hg3, Hout⟩⟩, Hk⟩
  have hx : g0 = xstg m ρ c := by rw [hg0]; unfold Dat.before; rw [if_pos (fetch0_0 t₀)]; rfl
  have hw : g1 = wstg m ρ c := by rw [hg1]; unfold Dat.before; rw [if_pos (fetch0_1 t₀)]; rfl
  have hl : g2 = lstg m ρ c := by rw [hg2]; unfold Dat.before; rw [if_pos (fetch0_2 t₀)]; rfl
  subst hx hw hl
  unfold Dat.owesAt Pipeline.owesWithin
  icases Ho with ⟨%W, %hW, HO⟩
  rw [show (dats m ρ 0 c).owed t₀.castSucc = owedBar c 0 from rfl]
  -- the seven signals
  ihave Hsig := (signals_ready c f1) $$ [HtB Hland]
  · isplitl [HtB] <;> iassumption
  have ho : (owes (c : Thread nD τ) (owedBar c 0) W : sProp 𝕄) ⊢ owing c (owedBar c 0) := by unfold owing; iintro H; iexists W; iexact H
  ihave HO := ho $$ HO
  iapply (wp_signal_at m ρ K c 0 _ (sig_dev0 c) _ rfl) $$ [Hsig HO]
  · isplitr; · iexact HR
    isplitl [Hsig]; · iexact Hsig
    iexact HO
  iintro ⟨Hsig, HO⟩
  iapply (wp_signal_at m ρ K c 1 _ (sig_dev1 c) _ rfl) $$ [Hsig HO]
  · isplitr; · iexact HR
    isplitl [Hsig]; · iexact Hsig
    iexact HO
  iintro ⟨Hsig, HO⟩
  iapply (wp_signal_at m ρ K c 2 _ (sig_dev2 c) _ rfl) $$ [Hsig HO]
  · isplitr; · iexact HR
    isplitl [Hsig]; · iexact Hsig
    iexact HO
  iintro ⟨Hsig, HO⟩
  iapply (wp_signal_at m ρ K c 3 _ (sig_dev3 c) _ rfl) $$ [Hsig HO]
  · isplitr; · iexact HR
    isplitl [Hsig]; · iexact Hsig
    iexact HO
  iintro ⟨Hsig, HO⟩
  iapply (wp_signal_at m ρ K c 4 _ (sig_dev4 c) _ rfl) $$ [Hsig HO]
  · isplitr; · iexact HR
    isplitl [Hsig]; · iexact Hsig
    iexact HO
  iintro ⟨Hsig, HO⟩
  iapply (wp_signal_at m ρ K c 5 _ (sig_dev5 c) _ rfl) $$ [Hsig HO]
  · isplitr; · iexact HR
    isplitl [Hsig]; · iexact Hsig
    iexact HO
  iintro ⟨Hsig, HO⟩
  iapply (wp_signal_at m ρ K c 6 _ (sig_dev6 c) _ rfl) $$ [Hsig HO]
  · isplitr; · iexact HR
    isplitl [Hsig]; · iexact Hsig
    iexact HO
  iintro ⟨Hsig, HO⟩
  -- its own part of the computation
  iapply (wp_load 𝒱₀ (c : Thread nD τ) none Set.univ (m := xM) (Finset.subset_univ _)) $$ Hx; iintro Hx
  rw [read_x]
  iapply (wp_load 𝒱₀ (c : Thread nD τ) none Set.univ (m := wM) (Finset.subset_univ _)) $$ Hw; iintro Hw
  rw [read_w]
  iapply (wp_load 𝒱₀ (c : Thread nD τ) none Set.univ (m := lM) (Finset.subset_univ _)) $$ Hl; iintro Hl
  rw [read_l]
  iapply (wp_load 𝒱₀ (c : Thread nD τ) none Set.univ (m := sM) (Finset.subset_univ _)) $$ Hst; iintro Hst
  iapply (wp_store 𝒱₀ (c : Thread nD τ) none Set.univ (m := sM) (r := rS) (Mk := Finset.univ) (Finset.subset_univ _)) $$ Hst; iintro Hst
  rw [write_s]
  -- the wait at the barrier
  unfold owing
  icases HO with ⟨%W₁, HO⟩
  iapply (Rounds.wp_wait_rest_token 𝒱₀ ER (Rd m ρ) (c : Thread nD τ) none (κ := K (c, .inl ()))
      (wpE_semWait_eq 𝒱₀ (c : Thread nD τ) none Set.univ) (Set.mem_univ _) () (O := tail (recvTally c) 0) (W := W₁) (R := 0) (m := 0) (T := ∅)
      (by rw [expect_bar]; decide)) $$ [HcB HO HatB]
  · isplitr; · iapply (inv_of m ρ K c (.inl ())); iexact HR
    isplitl [HcB]; · iexact HcB
    isplitl [HO]; · rw [← owedBar_seven]; iexact HO
    isplitr; · iapply (mayWait_bar c); iexact Hlev
    iexact HatB
  iintro ⟨HO, HatB, -, Hpay⟩
  ihave Hslots := (Entails.of_eq (rest_bar m ρ c)) $$ Hpay
  imod (Rounds.cell_close ER (Rd m ρ) (Set.mem_univ (K (c, .inl ()))) (fun h => h) (R := 0 + 1) (duties_later m ρ (barCell c))) $$ [HatB] with HzB
  · isplitr; · iapply (inv_of m ρ K c (.inl ())); iexact HR
    iexact HatB
  -- the seven transfers
  ihave Hsend := (sends_ready m ρ c) $$ [Hslots HtR HtS Hst]
  · isplitl [Hslots]; · iexact Hslots
    isplitl [HtR]; · iexact HtR
    isplitl [HtS]; · iexact HtS
    iexact Hst
  have ho (O : CellTallies nD τ sig Unit) (W : Waits sig Unit) : (owes (c : Thread nD τ) O W : sProp 𝕄) ⊢ owing c O := by
    unfold owing; iintro H; iexists W; iexact H
  ihave HO := (ho _ _) $$ HO
  have hgot (Φ : Fin 7 → sProp 𝕄) : (iprop(emp) : sProp 𝕄) ⊢ gained Φ 0 := Entails.of_eq (gained_zero Φ).symm
  ihave Hcr := (hgot (sentCred c)) $$ []
  · iempintro
  iapply (wp_send_at m ρ K c 0 _ (snd_dev0 c)) $$ [Hsend Hcr HO]
  · isplitr; · iexact HR
    isplitl [Hsend]; · iexact Hsend
    isplitl [Hcr]; · iexact Hcr
    iexact HO
  iintro ⟨Hsend, Hcr, HO⟩
  iapply (wp_send_at m ρ K c 1 _ (snd_dev1 c)) $$ [Hsend Hcr HO]
  · isplitr; · iexact HR
    isplitl [Hsend]; · iexact Hsend
    isplitl [Hcr]; · iexact Hcr
    iexact HO
  iintro ⟨Hsend, Hcr, HO⟩
  iapply (wp_send_at m ρ K c 2 _ (snd_dev2 c)) $$ [Hsend Hcr HO]
  · isplitr; · iexact HR
    isplitl [Hsend]; · iexact Hsend
    isplitl [Hcr]; · iexact Hcr
    iexact HO
  iintro ⟨Hsend, Hcr, HO⟩
  iapply (wp_send_at m ρ K c 3 _ (snd_dev3 c)) $$ [Hsend Hcr HO]
  · isplitr; · iexact HR
    isplitl [Hsend]; · iexact Hsend
    isplitl [Hcr]; · iexact Hcr
    iexact HO
  iintro ⟨Hsend, Hcr, HO⟩
  iapply (wp_send_at m ρ K c 4 _ (snd_dev4 c)) $$ [Hsend Hcr HO]
  · isplitr; · iexact HR
    isplitl [Hsend]; · iexact Hsend
    isplitl [Hcr]; · iexact Hcr
    iexact HO
  iintro ⟨Hsend, Hcr, HO⟩
  iapply (wp_send_at m ρ K c 5 _ (snd_dev5 c)) $$ [Hsend Hcr HO]
  · isplitr; · iexact HR
    isplitl [Hsend]; · iexact Hsend
    isplitl [Hcr]; · iexact Hcr
    iexact HO
  iintro ⟨Hsend, Hcr, HO⟩
  iapply (wp_send_at m ρ K c 6 _ (snd_dev6 c)) $$ [Hsend Hcr HO]
  · isplitr; · iexact HR
    isplitl [Hsend]; · iexact Hsend
    isplitl [Hcr]; · iexact Hcr
    iexact HO
  iintro ⟨Hsend, Hcr, HO⟩
  have ho7 : (owing c (tail (recvTally c) 7) : sProp 𝕄) ⊢ owing c 0 := Entails.of_eq (by rw [tail_seven])
  ihave HO := ho7 $$ [HO]
  · iexact HO
  -- the seven waits for what lands
  ihave Hwait := (todo_pair (fun k : Fin 7 => cred (tallyAt (recvCell c k) () N)) fun k => atPos ER (recvCell c k) 0 ∅ 0) $$ [HcR HatR]
  · isplitl [HcR]; · iexact HcR
    iexact HatR
  ihave Hgot := (hgot fun k => waited m ρ c (.inr k)) $$ []
  · iempintro
  iapply (wp_landed_at m ρ K c 0) $$ [Hwait Hgot HO]
  · isplitr; · iexact HR
    isplitl [Hwait]; · iexact Hwait
    isplitl [Hgot]; · iexact Hgot
    iexact HO
  iintro ⟨Hwait, Hgot, HO⟩
  iapply (wp_landed_at m ρ K c 1) $$ [Hwait Hgot HO]
  · isplitr; · iexact HR
    isplitl [Hwait]; · iexact Hwait
    isplitl [Hgot]; · iexact Hgot
    iexact HO
  iintro ⟨Hwait, Hgot, HO⟩
  iapply (wp_landed_at m ρ K c 2) $$ [Hwait Hgot HO]
  · isplitr; · iexact HR
    isplitl [Hwait]; · iexact Hwait
    isplitl [Hgot]; · iexact Hgot
    iexact HO
  iintro ⟨Hwait, Hgot, HO⟩
  iapply (wp_landed_at m ρ K c 3) $$ [Hwait Hgot HO]
  · isplitr; · iexact HR
    isplitl [Hwait]; · iexact Hwait
    isplitl [Hgot]; · iexact Hgot
    iexact HO
  iintro ⟨Hwait, Hgot, HO⟩
  iapply (wp_landed_at m ρ K c 4) $$ [Hwait Hgot HO]
  · isplitr; · iexact HR
    isplitl [Hwait]; · iexact Hwait
    isplitl [Hgot]; · iexact Hgot
    iexact HO
  iintro ⟨Hwait, Hgot, HO⟩
  iapply (wp_landed_at m ρ K c 5) $$ [Hwait Hgot HO]
  · isplitr; · iexact HR
    isplitl [Hwait]; · iexact Hwait
    isplitl [Hgot]; · iexact Hgot
    iexact HO
  iintro ⟨Hwait, Hgot, HO⟩
  iapply (wp_landed_at m ρ K c 6) $$ [Hwait Hgot HO]
  · isplitr; · iexact HR
    isplitl [Hwait]; · iexact Hwait
    isplitl [Hgot]; · iexact Hgot
    iexact HO
  iintro ⟨Hwait, Hgot, HO⟩
  ihave Hland := (landed_all m ρ c) $$ [Hgot]
  · iexact Hgot
  icases Hland with ⟨Hland, HzR⟩
  -- the result
  iapply (wp_load 𝒱₀ (c : Thread nD τ) none Set.univ (m := gM) (Finset.subset_univ _)) $$ Hland; iintro Hland
  rw [read_g]
  iapply (wp_load 𝒱₀ (c : Thread nD τ) none Set.univ (m := oM) (Finset.subset_univ _)) $$ Hout; iintro Hout
  iapply (wp_store 𝒱₀ (c : Thread nD τ) none Set.univ (m := oM) (r := rL) (Mk := Finset.univ) (Finset.subset_univ _)) $$ Hout; iintro Hout
  rw [write_o]
  -- the seven waits for what was sent
  ihave Hcr := (Entails.of_eq (gained_seven (sentCred c))) $$ [Hcr]
  · iexact Hcr
  ihave Hwait := (todo_pair (fun k : Fin 7 => cred (tallyAt (sendCell c k) () N)) fun k => atPos ER (sendCell c k) 0 ∅ 0) $$ [Hcr HatS]
  · isplitl [Hcr]; · iexact Hcr
    iexact HatS
  ihave Hgot := (hgot fun k => waited m ρ c (.inl k)) $$ []
  · iempintro
  iapply (wp_sent_at m ρ K c 0) $$ [Hwait Hgot HO]
  · isplitr; · iexact HR
    isplitl [Hwait]; · iexact Hwait
    isplitl [Hgot]; · iexact Hgot
    iexact HO
  iintro ⟨Hwait, Hgot, HO⟩
  iapply (wp_sent_at m ρ K c 1) $$ [Hwait Hgot HO]
  · isplitr; · iexact HR
    isplitl [Hwait]; · iexact Hwait
    isplitl [Hgot]; · iexact Hgot
    iexact HO
  iintro ⟨Hwait, Hgot, HO⟩
  iapply (wp_sent_at m ρ K c 2) $$ [Hwait Hgot HO]
  · isplitr; · iexact HR
    isplitl [Hwait]; · iexact Hwait
    isplitl [Hgot]; · iexact Hgot
    iexact HO
  iintro ⟨Hwait, Hgot, HO⟩
  iapply (wp_sent_at m ρ K c 3) $$ [Hwait Hgot HO]
  · isplitr; · iexact HR
    isplitl [Hwait]; · iexact Hwait
    isplitl [Hgot]; · iexact Hgot
    iexact HO
  iintro ⟨Hwait, Hgot, HO⟩
  iapply (wp_sent_at m ρ K c 4) $$ [Hwait Hgot HO]
  · isplitr; · iexact HR
    isplitl [Hwait]; · iexact Hwait
    isplitl [Hgot]; · iexact Hgot
    iexact HO
  iintro ⟨Hwait, Hgot, HO⟩
  iapply (wp_sent_at m ρ K c 5) $$ [Hwait Hgot HO]
  · isplitr; · iexact HR
    isplitl [Hwait]; · iexact Hwait
    isplitl [Hgot]; · iexact Hgot
    iexact HO
  iintro ⟨Hwait, Hgot, HO⟩
  iapply (wp_sent_at m ρ K c 6) $$ [Hwait Hgot HO]
  · isplitr; · iexact HR
    isplitl [Hwait]; · iexact Hwait
    isplitl [Hgot]; · iexact Hgot
    iexact HO
  iintro ⟨Hwait, Hgot, HO⟩
  ihave Hst := (sent_all m ρ c) $$ [Hgot]
  · iexact Hgot
  icases Hst with ⟨Hst, HzS⟩
  rw [wp_ret]; imodintro
  iapply Hk
  unfold bodyPost Φ₁ Dat.owesAt Pipeline.owesWithin
  rw [show (dats m ρ 0 c).owed t₀.succ = 0 from rfl]
  isplitl [Hst Hland HzB HzS HzR]
  · isplitl [Hst]; · iexact Hst
    isplitl [Hland]; · iexact Hland
    isplitl [HzB]; · iexact HzB
    iapply (own_closed c)
    isplitl [HzS]; · iexact HzS
    iexact HzR
  isplitl [HO]
  · unfold owing
    icases HO with ⟨%W₂, HO⟩
    iexists W₂
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  isplitl [Hl]
  · iexists _; isplitr; · (ipureintro; rfl)
    iexact Hl
  iexists _; isplitr; · (ipureintro; rfl)
  iexact Hout

/-- The body as the pipeline asks for it. -/
theorem body_obligation (c : Dev nD) : BodyObligation (dats (F := F) m ρ 0 c) (defs₀ (F := F)) 𝒱₀ () Set.univ := fun t => by
  rw [fin_N0 t]
  rw [bigSep_W0, bigSep_W0]
  simp only [owns_staged]
  show bodyPre m ρ c ⊢ wp frame (wpE (defs₀ (F := F)) 𝒱₀ (c : Thread nD τ) none) Set.univ
    (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            cc0_scratch2 cc0_scratch3) (fun _ => bodyPost m ρ c)
  iintro H
  iapply (sound_body m ρ c fun _ => bodyPost m ρ c)
  isplitl [H]; · iexact H
  iintro H; iexact H

end Cert.CrossEntropy

end
-- ==== Proof.Launch.lean ====
/-
# The launch of the eight kernels

The ghost state of the exchange is dealt at launch: each device receives its own cells' duties, positions and counters.
One step over all devices together makes the cells' invariants and deals every duty to the device that pays it. The run
then terminates on every device, with the result arrays at `outAt` and every semaphore at zero.
-/
module

public import proofs.«01_k».proof.Proof.Body
public import Idealize.ShloMosaic.Lib.Pipeline.CollectiveSegs

@[expose] public section

noncomputable section

namespace Cert.CrossEntropy

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

/-! ## The ghost state at launch -/

/-- A device's duties: the seven of its barrier cell, and one for each of its other cells. -/
abbrev Duty : Type := Fin 7 ⊕ Own
def slotOf : Duty → Slot := Sum.elim (fun _ => .inl ()) .inr
def dutyOf : Duty → Fin 7 := Sum.elim id fun _ => 0

theorem duty_ext : ∀ t t' : Duty, slotOf t = slotOf t' → dutyOf t = dutyOf t' → t = t' := by
  rintro (d | i) (d' | i') h h'
  · exact congrArg Sum.inl h'
  · cases h
  · cases h
  · exact congrArg Sum.inr (Sum.inr.inj h)

/-- A duty's token, named by its cell, round and number. -/
abbrev tokOf (ct : Dev nD × Duty) : GSem nD τ sig × ℕ × Fin 7 := (kcell (ct.1, slotOf ct.2), 0, dutyOf ct.2)

theorem tokOf_injective : Function.Injective tokOf := by
  rintro ⟨c, t⟩ ⟨c', t'⟩ h
  have h1 : (c, slotOf t) = (c', slotOf t') := kcell_injective (congrArg Prod.fst h)
  have h2 : t = t' := duty_ext t t' (congrArg Prod.snd h1) (congrArg (fun x : GSem nD τ sig × ℕ × Fin 7 => x.2.2) h)
  rw [show c = c' from congrArg Prod.fst h1, h2]

def ringCells : Finset (GSem nD τ sig) := Finset.univ.map ⟨kcell, kcell_injective⟩
def ringToks : Finset (GSem nD τ sig × ℕ × Fin 7) := Finset.univ.map ⟨tokOf, tokOf_injective⟩

def u₀ : UU :=
  (initOf (Pipeline.cells cfgs cellOf_inj) (Pipeline.launchToks cfgs cellOf_inj), initOf ringCells ringToks)

/-- The tokens of the duties of device `c`'s own cells. -/
def toks (c : Dev nD) : sProp 𝕄 := bigSep Finset.univ fun t : Duty => dutyTok ER (kcell (c, slotOf t)) 0 (dutyOf t)

/-- What the launch deals device `c`. -/
def G (c : Dev nD) : sProp 𝕄 :=
  iprop((bigSep Finset.univ fun i : Slot => roundState ER (Rd m ρ) (kcell (c, i)) 0)
    ∗ (bigSep Finset.univ fun i : Slot => iprop(atPos ER (kcell (c, i)) 0 ∅ 0 ∗ reached ER (kcell (c, i)) 0)) ∗ toks c)

/-- What the step over all devices makes of it. -/
def G' (c : Dev nD) : sProp 𝕄 := iprop(∃ K, records m ρ K ∗ linear c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun i : Slot => Φ (kcell (c, i)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (Rd m ρ) ringCells ringToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- A family over the roles of a device's cells: the barrier's, the sends', the receives'. -/
theorem roles_eq (Φ : Slot → sProp 𝕄) : bigSep Finset.univ Φ
    = iprop(Φ (.inl ()) ∗ (bigSep Finset.univ fun k : Fin 7 => Φ (.inr (.inl k))) ∗ bigSep Finset.univ fun k : Fin 7 => Φ (.inr (.inr k))) := by
  rw [bigSep_univ_sum, bigSep_univ_sum, BI.bigSep_univ_of_subsingleton ()]; rfl

omit [FloatOps F] in
/-- The barrier semaphore is the one semaphore that is no kernel's own; -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun i : Own => semVal (kcell (c, .inr i)) 0 := rfl

omit [FloatOps F] in
/-- with the kernel's own, all those of the exchange. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : Slot => semVal (kcell (c, i)) 0 : sProp 𝕄) := by
  have h : (bigSep Finset.univ fun i : Slot => semVal (kcell (c, i)) 0 : sProp 𝕄)
      = iprop(semVal (barCell c) 0 ∗ bigSep Finset.univ fun i : Own => semVal (kcell (c, .inr i)) 0) := by
    rw [bigSep_univ_sum, BI.bigSep_univ_of_subsingleton ()]; rfl
  rw [unscopedSems0_eq, ownSems0_eq, h]
  iintro ⟨HO, HB⟩
  isplitl [HB]; · iexact HB
  iexact HO

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i : Slot => iprop(∃ κ : ℕ, cellInv ER (Rd m ρ) κ (kcell (c, i))))
          ∗ (bigSep Finset.univ fun i : Slot => iprop(atPos ER (kcell (c, i)) 0 ∅ 0 ∗ reached ER (kcell (c, i)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun i : Slot => semVal (kcell (c, i)) 0) ∗ bigSep Finset.univ fun i : Slot => roundState ER (Rd m ρ) (kcell (c, i)) 0)
      ⊢ (|={Set.univ}=> bigSep Finset.univ fun i => iprop(∃ κ : ℕ, cellInv ER (Rd m ρ) κ (kcell (c, i))) : sProp 𝕄) from by
        rw [← bigSep_sep']
        exact (bigSep_mono fun i _ => (Rounds.body_intro ER (Rd m ρ) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-! ## Every duty to the device that pays it -/

/-- A duty of a cell of `up j c` is paid by `c`: the barrier's under the number `Fin.rev j`, the transfer's under `j`. -/
def spreadBar : Dev nD × Fin 7 ≃ Dev nD × Fin 7 where
  toFun p := (up p.2 p.1, Fin.rev p.2)
  invFun p := (dn (Fin.rev p.2) p.1, Fin.rev p.2)
  left_inv p := by revert p; decide
  right_inv p := by revert p; decide
def spreadRecv : Dev nD × Fin 7 ≃ Dev nD × Fin 7 where
  toFun p := (up p.2 p.1, p.2)
  invFun p := (dn p.2 p.1, p.2)
  left_inv p := by revert p; decide
  right_inv p := by revert p; decide

omit [FloatOps F] in
theorem spread (e : Dev nD × Fin 7 ≃ Dev nD × Fin 7) (Φ : Dev nD → Fin 7 → sProp 𝕄) :
    (bigSep Finset.univ fun c : Dev nD => bigSep Finset.univ fun d : Fin 7 => Φ c d)
      = bigSep Finset.univ fun c : Dev nD => bigSep Finset.univ fun j : Fin 7 => Φ (e (c, j)).1 (e (c, j)).2 := by
  rw [← bigSep_univ_prod (fun p : Dev nD × Fin 7 => Φ p.1 p.2), bigSep_univ_equiv e, bigSep_univ_prod]

omit [FloatOps F] in
theorem toks_eq (c : Dev nD) : (toks c : sProp 𝕄) = iprop((bigSep Finset.univ fun d : Fin 7 => dutyTok ER (barCell c) 0 d)
    ∗ (bigSep Finset.univ fun k : Fin 7 => dutyTok ER (sendCell c k) 0 0) ∗ bigSep Finset.univ fun k : Fin 7 => dutyTok ER (recvCell c k) 0 0) := by
  unfold toks; rw [bigSep_univ_sum, bigSep_univ_sum]; rfl

/-- The tokens of the duties device `c` pays. -/
def payToks (c : Dev nD) : sProp 𝕄 :=
  iprop((bigSep Finset.univ fun j : Fin 7 => dutyTok ER (barCell (up j c)) 0 (Fin.rev j))
    ∗ (bigSep Finset.univ fun k : Fin 7 => dutyTok ER (recvCell (up k c) k) 0 0)
    ∗ (bigSep Finset.univ fun k : Fin 7 => dutyTok ER (sendCell c k) 0 0))

omit [FloatOps F] in
theorem toks_around : (bigSep Finset.univ fun c : Dev nD => (toks c : sProp 𝕄)) ⊢ bigSep Finset.univ fun c : Dev nD => payToks c := by
  simp only [toks_eq]; unfold payToks
  rw [bigSep_sep', bigSep_sep', bigSep_sep', bigSep_sep',
    spread spreadBar fun c d => dutyTok ER (barCell c) 0 d, spread spreadRecv fun c k => dutyTok ER (recvCell c k) 0 0]
  iintro ⟨H1, H2, H3⟩
  isplitl [H1]; · iexact H1
  isplitl [H3]; · iexact H3
  iexact H2

omit [FloatOps F] in
/-- The positions and the tokens are what a device holds for itself. -/
theorem linear_intro (c : Dev nD) :
    iprop((bigSep Finset.univ fun i : Slot => atPos ER (kcell (c, i)) 0 ∅ 0) ∗ payToks c) ⊢ (linear c : sProp 𝕄) := by
  rw [roles_eq]
  unfold payToks linear
  iintro ⟨⟨HB, HS, HR⟩, HtB, HtR, HtS⟩
  isplitl [HtB]; · iexact HtB
  isplitl [HtR]; · iexact HtR
  isplitl [HtS]; · iexact HtS
  isplitl [HB]; · iexact HB
  isplitl [HS]; · iexact HS
  iexact HR

theorem regroup :
    (bigSep Finset.univ fun c : Dev nD => iprop((bigSep Finset.univ fun i : Slot => iprop(∃ κ : ℕ, cellInv ER (Rd m ρ) κ (kcell (c, i))))
          ∗ (bigSep Finset.univ fun i : Slot => iprop(atPos ER (kcell (c, i)) 0 ∅ 0 ∗ reached ER (kcell (c, i)) 0)) ∗ toks c) : sProp 𝕄)
      ⊢ bigSep Finset.univ (G' m ρ) := by
  rw [bigSep_sep', bigSep_sep', ← bigSep_univ_prod (fun ci : Dev nD × Slot => iprop(∃ κ : ℕ, cellInv ER (Rd m ρ) κ (kcell ci))),
    bigSep_congr (s := Finset.univ) (fun (c : Dev nD) _ => bigSep_sep' Finset.univ (fun i : Slot => (atPos ER (kcell (c, i)) 0 ∅ 0 : sProp 𝕄)) (fun i => reached ER (kcell (c, i)) 0)),
    bigSep_sep', ← bigSep_univ_prod (fun ci : Dev nD × Slot => (reached ER (kcell ci) 0 : sProp 𝕄))]
  iintro ⟨HI, ⟨Hat, #HR⟩, Htok⟩
  ihave HK := (BI.bigSep_exists_pi Finset.univ (fun (ci : Dev nD × Slot) (κ : ℕ) => (cellInv ER (Rd m ρ) κ (kcell ci) : sProp 𝕄))) $$ HI
  icases HK with ⟨%K, #HI⟩
  ihave Htk := (toks_around (F := F)) $$ Htok
  have hG (c : Dev nD) : iprop(records m ρ K ∗ linear c) ⊢ (G' m ρ c : sProp 𝕄) := by
    unfold G'; iintro H; iexists K; iexact H
  iapply (bigSep_with_persistent (R := records m ρ K) fun c _ => hG c)
  isplitr
  · unfold records; isplitl; · iexact HI
    iexact HR
  · iapply ((Entails.of_eq (bigSep_sep' Finset.univ (fun c : Dev nD => bigSep Finset.univ fun i : Slot => (atPos ER (kcell (c, i)) 0 ∅ 0 : sProp 𝕄)) payToks).symm).trans
      (bigSep_mono fun c _ => linear_intro c))
    isplitl [Hat]; · iexact Hat
    iexact Htk

/-- The step over all devices at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit at launch -/

/-- If each device owes `n` to the cell in role `s k` of the device `k + 1` places on, for every `k`, then the cell in role
    `i` of a device is owed `n` for each `k` with `s k = i`. -/
theorem sum_around (s : Fin 7 → Slot) (n : ℕ) (c : Dev nD) (i : Slot) :
    ∑ d : Dev nD, tail (fun k => (tallyAt (kcell (up k d, s k)) () n : CellTallies nD τ sig Unit)) 0 (kcell (c, i)) () = ∑ k, if i = s k then n else 0 := by
  have h (d : Dev nD) : tail (fun k => (tallyAt (kcell (up k d, s k)) () n : CellTallies nD τ sig Unit)) 0 (kcell (c, i)) ()
      = ∑ k, if (c, i) = (up k d, s k) then n else 0 := by
    rw [tail_apply]
    refine Finset.sum_congr (by decide) fun k _ => ?_
    rw [tallyAt_apply]
    exact if_congr ⟨fun h => kcell_injective h.1, fun h => ⟨congrArg kcell h, rfl⟩⟩ rfl rfl
  rw [Finset.sum_congr rfl fun d _ => h d, Finset.sum_comm]
  refine Finset.sum_congr rfl fun k _ => ?_
  refine (Equiv.sum_comp (around k) fun d => if (c, i) = (d, s k) then n else 0).trans ?_
  by_cases hi : i = s k
  · subst hi
    rw [if_pos rfl, Finset.sum_eq_single c (fun d _ hd => if_neg fun h => hd (congrArg Prod.fst h).symm) fun h => absurd (Finset.mem_univ c) h, if_pos rfl]
  · rw [if_neg hi]
    exact Finset.sum_eq_zero fun d _ => if_neg fun h => hi (congrArg Prod.snd h)

theorem sum_owed (c : Dev nD) (i : Slot) :
    ∑ d : Dev nD, O₀ d (kcell (c, i)) () = (∑ k : Fin 7, if i = .inr (.inr k) then N else 0) + ∑ k : Fin 7, if i = .inl () then 1 else 0 := by
  rw [← sum_around (fun k => .inr (.inr k)) N c i, ← sum_around (fun _ => .inl ()) 1 c i, ← Finset.sum_add_distrib]
  rfl

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same]
  refine (sum_owed c (.inl ())).trans ?_
  simp
theorem launch_recv (c : Dev nD) (k : Fin 7) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same]
  refine (sum_owed c (.inr (.inr k))).trans ?_
  simp

omit [FloatOps F] in
theorem creds (c : Dev nD) :
    (Pipeline.launchCred O₀ c : sProp 𝕄) ⊢ iprop(cred (tallyAt (barCell c) () 7) ∗ bigSep Finset.univ fun k : Fin 7 => cred (tallyAt (recvCell c k) () N)) := by
  have h : (Pipeline.launchCred O₀ c : sProp 𝕄) ⊢ iprop(cred (tallyOn (barCell c) (launchCredit (Pipeline.owing O₀) 0 (barCell c)))
      ∗ (bigSep Finset.univ fun k : Fin 7 => cred (tallyOn (sendCell c k) (launchCredit (Pipeline.owing O₀) 0 (sendCell c k))))
      ∗ bigSep Finset.univ fun k : Fin 7 => cred (tallyOn (recvCell c k) (launchCredit (Pipeline.owing O₀) 0 (recvCell c k)))) := by
    unfold Pipeline.launchCred
    refine (BI.bigSep_subset (Finset.subset_univ (Finset.univ.map ⟨csem, csem_injective⟩))).trans ?_
    rw [bigSep_map, roles_eq]
    exact Entails.refl _
  simp only [launch_bar, launch_recv] at h
  iintro H
  ihave H := h $$ H
  icases H with ⟨HB, -, HR⟩
  isplitl [HB]; · iexact HB
  iexact HR

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, ownSems0_eq, unscopedSems0_eq]
  unfold Φ₁
  iintro ⟨Hs, Hg, HB, HO⟩
  isplitl [HB]; · iexact HB
  isplitl [HO]; · iexact HO
  isplitl [Hs]
  · iexists (stats m ρ c); iexact Hs
  · iexists (gathered m ρ c); iexact Hg

theorem stage_level : ∀ (w : Fin cfg0.W) (s : Fin (cfg0.win w).nbuf), role (.dma ((cfg0.win w).sem s)) = none := by decide

theorem waits (c : Dev nD) : (levAts L lv : sProp 𝕄) ⊢ Pipeline.cellsWaits cfgs (dats m ρ) () 0 c :=
  Pipeline.cellsWaits_intro cfgs (dats m ρ) () 0 c fun w s t =>
    mayWait_stage c _ (by unfold lv; rw [stage_level w s]) _ (by
      rcases t with ⟨_ | _, ht⟩
      · exact Or.inl rfl
      · exact Or.inr rfl)

/-! ## The run -/

/-- The arrays after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On the eight devices, over any float values and from any memory with every semaphore at zero, every fair execution of
    the program terminates, with each device's arrays at `finalA` and every semaphore at zero again. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.CrossEntropy

end
-- ==== Proof.Results.lean ====
/-
# What the arrays hold after the run

The kernel reads its three argument arrays and writes its one result array, each as a single whole block: the arguments end
as they began, and the result ends at `outAt`.
-/
module

public import proofs.«01_k».proof.Proof.Launch

@[expose] public section

noncomputable section

namespace Cert.CrossEntropy

open Cert.KernelIdeal Cert.KernelIdeal.Gen

open Idealize.ShloMosaic
open Idealize.ShloMosaic.TcCoe

variable {F : FTy → Type} [FloatOps F]
variable (m : (ℓ : Loc nD τ sig) → Buf (Elt F) ℓ) (ρ : Dev nD → PrngReg)

/-- An argument array is only read: it ends as it began. -/
theorem finalA_arg (c : Dev nD) (w : Fin cfg0.W) (h : (cfg0.win w).isOut = false) :
    finalA m ρ c w = m ((cfg0.win w).arr.view.loc (c : Thread nD τ)) :=
  (dats (F := F) m ρ 0 c).arrAt_in w h _

/-- The one block of a window spans its whole array, so its offsets are all zero. -/
theorem block_at_zero (w : Fin cfg0.W) (a : Fin (cfg0.win w).shape.rank) : (cfg0.win w).index t₀ a * (cfg0.win w).size a = 0 := by
  revert a; revert w; decide +kernel

/-- The staged copy of `x` is `x`. -/
theorem xstg_eq (c : Dev nD) : xstg m ρ c = m ((c : Thread nD τ).loc main_arg0) :=
  View.ld_unit_zero (Val := Elt F) (funext (block_at_zero (0 : Fin 4))) _ _
/-- The staged copy of the device's columns of `W` is those columns. -/
theorem wstg_eq (c : Dev nD) : wstg m ρ c = m ((c : Thread nD τ).loc main_arg1) :=
  View.ld_unit_zero (Val := Elt F) (funext (block_at_zero (1 : Fin 4))) _ _
/-- The staged copy of the labels is the labels. -/
theorem lstg_eq (c : Dev nD) : lstg m ρ c = m ((c : Thread nD τ).loc main_arg2) :=
  View.ld_unit_zero (Val := Elt F) (funext (block_at_zero (2 : Fin 4))) _ _

/-- The result array ends holding what the body computed, whole. -/
theorem finalA_out (c : Dev nD) : finalA m ρ c (3 : Fin 4) = outAt m ρ c := by
  have hr (f : main_v1.ty.Contents (Elt F)) : (win0_3.blk t₀).view.read (Elt F) f = f :=
    View.ld_unit_zero (Val := Elt F) (funext (block_at_zero (3 : Fin 4))) _ _
  rw [← hr (finalA m ρ c (3 : Fin 4))]
  unfold finalA
  rw [show cfg0.N = (t₀ : Fin cfg0.N).val + 1 from rfl, (dats m ρ 0 c).arrAt_succ (3 : Fin 4) t₀,
    show (cfg0.win (3 : Fin 4)).flush t₀ = true from flush0_3 _, if_pos rfl]
  exact View.read_write_univ _ _

end Cert.CrossEntropy

end
-- ==== Proof.OneDevice.lean ====
/-
# What one device computes, in exact arithmetic

For each row of `x`, device `c` forms the products with its own 4096 columns of `W`. It sums their exponentials, and it adds
up the entries whose column is the row's label, of which there is at most one. Once the other devices' sums are in, it
adds all of them to its own and takes the logarithm of the first kind of sum less the second kind.
-/
module

public import proofs.«01_k».proof.Proof.Results
public import Idealize.ShloMosaic.PureOps.Ideal.Laws
public import Idealize.ShloMosaic.Lib.Pipeline.Value
public import Idealize.ShloMosaic.Lib.ValueIdx
public import Idealize.ShloMosaic.Lib.ValueLayout
public import Idealize.ShloMosaic.Lib.ValueLayoutCasts
public import Idealize.ShloMosaic.Lib.KernelVsHost

@[expose] public section

noncomputable section

namespace Cert.CrossEntropy

open Cert.KernelIdeal Cert.KernelIdeal.Gen

open Idealize.ShloMosaic
open Idealize.ShloMosaic.TcCoe
open Idealize.ShloMosaic.ValueIdx

/-! ## Products of matrices -/

/-- Entry `(r, v)` of the product of `x`, with 512 columns, and `w`, with `n`. -/
def logit {n : Nat} (x : FVec Ideal ⟨2, ![256, 512]⟩ .f32) (w : FVec Ideal ⟨2, ![512, n]⟩ .f32) (r : Fin 256) (v : Fin n) : EReal :=
  ∑ k : Fin 512, x (ix2 r k) * w (ix2 k v)

/-- The one axis that a plain product contracts, by its coordinate. -/
def inner (M K N : Nat) : (DotDims.plain M K N).contr.Idx ≃ Fin K := contrEquiv1 (DotDims.plain M K N) K rfl rfl

/-- The sum a plain product's entry is, over that coordinate. -/
theorem plain_sum {M K N : Nat} (a : FVec Ideal ⟨2, ![M, K]⟩ .f32) (b : FVec Ideal ⟨2, ![K, N]⟩ .f32) (r : Fin M) (v : Fin N) :
    (∑ k : (DotDims.plain M K N).contr.Idx, a ((DotDims.plain M K N).lhsIdx (ix2 r v) k) * b ((DotDims.plain M K N).rhsIdx (ix2 r v) k))
      = ∑ k : Fin K, a (ix2 r k) * b (ix2 k v) := by
  rw [← Equiv.sum_comp (inner M K N).symm]
  refine Finset.sum_congr rfl fun k _ => ?_
  congr 2
  · funext d; match d with
    | ⟨0, _⟩ => rfl
    | ⟨1, _⟩ => rfl
  · funext d; match d with
    | ⟨0, _⟩ => rfl
    | ⟨1, _⟩ => rfl

/-- The kernel's product, added to an array of zeros, has the entries of the plain product. -/
theorem product_apply {M K N : Nat} (a : FVec Ideal ⟨2, ![M, K]⟩ .f32) (b : FVec Ideal ⟨2, ![K, N]⟩ .f32) (r : Fin M) (v : Fin N) :
    matmul (DotDims.plain M K N) none a b (constant ⟨2, ![M, N]⟩ .f32 0x00000000#32) (ix2 r v) = ∑ k : Fin K, a (ix2 r k) * b (ix2 k v) :=
  (Ideal.matmul_constant_zero_apply _ _ _ _ _).trans (plain_sum a b r v)

/-- A column of ones. -/
theorem one_apply (i : S4096x1.Idx) : (k0_pay3 : FVec Ideal S4096x1 .f32) i = 1 := by
  show Ideal.ofBits .f32 0x3F800000#32 = 1
  simp [Ideal.ofBits, Ideal.ieee]
  rw [← EReal.coe_mul]
  norm_num

/-- A column of numbers read as a row of them. -/
theorem column_apply (y : FVec Ideal S256x1 .f32) (h : S256x1.ShapeCasts S256) (r : Fin 256) :
    shapeCast S256 y h (ix1 r) = y (ix2 r (0 : Fin 1)) :=
  shapeCast_apply y h _ _ (by
    rw [Shape.rowMajor_val_two, Shape.rowMajor_val_one]
    show r.val * 1 + 0 = r.val
    omega)

/-- A product with the column of ones adds up each row. -/
theorem row_sum (a : FVec Ideal S256x4096 .f32) (r : Fin 256) :
    shapeCast S256 (matmul dot_S256x4096_S4096x1_S256x1_1_0_0_1_n_n none a (k0_pay3 (F := Ideal)) (constant S256x1 .f32 0x00000000#32)) shapeCasts_S256x1_S256 (ix1 r)
      = ∑ v : Fin 4096, a (ix2 r v) := by
  rw [column_apply]
  refine (product_apply (M := 256) (K := 4096) (N := 1) a (k0_pay3 (F := Ideal)) r 0).trans ?_
  exact Finset.sum_congr rfl fun v _ => by rw [one_apply, mul_one]

/-- The products with the device's columns. -/
theorem logits_apply (x : FVec Ideal S256x512 .f32) (w : FVec Ideal S512x4096 .f32) (r : Fin 256) (v : Fin 4096) :
    k0_pay2 (F := Ideal) (k0_pay1 x) w (ix2 r v) = logit x w r v := by
  unfold k0_pay2 k0_pay1
  dsimp only
  rw [shapeCast_self, shapeCast_self]
  exact product_apply x w r v

/-! ## The two rows of sums a device sends -/

/-- A device's sum of exponentials, row by row. -/
theorem expSum_apply (x : FVec Ideal S256x512 .f32) (w : FVec Ideal S512x4096 .f32) (r : Fin 256) :
    k0_pay4 (F := Ideal) (k0_pay1 x) w (ix1 r) = ∑ v : Fin 4096, Ideal.exp (logit x w r v) := by
  unfold k0_pay4
  refine (row_sum _ r).trans (Finset.sum_congr rfl fun v _ => ?_)
  exact congrArg Ideal.exp (logits_apply x w r v)

/-- A device's labelled entry, row by row: the sum of those whose column is the label counted from the first column that
    is the device's own. -/
theorem picked_apply (p : BitVec 32) (x : FVec Ideal S256x512 .f32) (w : FVec Ideal S512x4096 .f32) (l : IVec S256 32) (r : Fin 256) :
    k0_pay5 (F := Ideal) p (k0_pay1 x) w l (ix1 r)
      = ∑ v : Fin 4096, if BitVec.ofNat 32 v.val = l (ix1 r) - p * 4096#32 then logit x w r v else 0 := by
  unfold k0_pay5
  dsimp only
  refine (row_sum _ r).trans (Finset.sum_congr rfl fun v _ => ?_)
  rw [select_apply, logits_apply]
  show Scalar.select (Scalar.cmpi .eq (iota .tc S256x4096 32 [1] iota_S256x4096_d1_w32 (ix2 r v)) (broadcastTo S256x4096 _ broadcasts_S256x1_S256x4096 (ix2 r v))) _
    (Ideal.ofBits .f32 0x00000000#32) = _
  rw [iota_single_apply, broadcastTo_apply _ broadcasts_S256x1_S256x4096 (ix2 r v) (ix2 r (0 : Fin 1)) (fun a => by
      match a with
      | ⟨0, _⟩ => rfl
      | ⟨1, _⟩ => rfl),
    shapeCast_a_a1_apply, shapeCast_self, Ideal.ofBits_zero_f32]
  show Scalar.select (BitVec.ofBool (decide (BitVec.ofNat 32 v.val = l (ix1 r) - p * 4096#32))) _ _ = _
  by_cases h : BitVec.ofNat 32 v.val = l (ix1 r) - p * 4096#32
  · rw [if_pos h, decide_eq_true h]; rfl
  · rw [if_neg h, decide_eq_false h]; rfl

/-- What a device sends holds its sums of exponentials as row 0 and its labelled entries as row 1. -/
theorem stats_apply (p : BitVec 32) (x : FVec Ideal S256x512 .f32) (w : FVec Ideal S512x4096 .f32) (l : IVec S256 32) (r : Fin 256) :
    k0_pay6 (F := Ideal) p (k0_pay1 x) w l (ix2 (0 : Fin 2) r) = k0_pay4 (F := Ideal) (k0_pay1 x) w (ix1 r)
      ∧ k0_pay6 (F := Ideal) p (k0_pay1 x) w l (ix2 (1 : Fin 2) r) = k0_pay5 (F := Ideal) p (k0_pay1 x) w l (ix1 r) := by
  unfold k0_pay6
  rw [shapeCast_self]
  constructor
  · rw [concatenate_pair_apply_left (s₁ := S1x256) (s₂ := S1x256) 0 _ _ _ (ix2 (0 : Fin 2) r) rfl (ix2 (0 : Fin 1) r) (fun b => by
      match b with
      | ⟨0, _⟩ => rfl
      | ⟨1, _⟩ => rfl), shapeCast_a_1a_apply]
  · rw [concatenate_pair_apply_right (s₁ := S1x256) (s₂ := S1x256) 0 _ _ _ (ix2 (1 : Fin 2) r) rfl rfl (ix2 (0 : Fin 1) r) (fun b hb => by
      match b with
      | ⟨0, _⟩ => exact absurd rfl hb
      | ⟨1, _⟩ => rfl) rfl, shapeCast_a_1a_apply]

/-! ## The sums of all devices, together -/

/-- Row `j` of each of the seven blocks that came in, added up. -/
theorem others_sum (g : FVec Ideal S7x2x256 .f32) (j : Fin 2) (hs : S7x2x256.Slices ![0, j.val, 0] S7x1x256) (r : Fin 256) :
    multiReduction .add [0] S256 (shapeCast S7x256 (extractStridedSlice S7x1x256 ![0, j.val, 0] g hs) shapeCasts_S7x1x256_S7x256) 0x00000000#32
        reduces_S7x256_S256 (.inl rfl) rfl (ix1 r)
      = ∑ k : Fin 7, g (ix3 k j r) := by
  refine (Ideal.multiReduction_add_single _ _ reduces_S7x256_S256 _ _ _).trans ?_
  refine Finset.sum_congr rfl fun k _ => ?_
  refine (shapeCast_apply _ shapeCasts_S7x1x256_S7x256 _ (ix3 k (0 : Fin 1) r) ?_).trans ?_
  · rw [Shape.rowMajor_val_three, Shape.rowMajor_val_two]
    show (k.val * 1 + 0) * 256 + r.val = k.val * 256 + r.val
    omega
  · exact extractStridedSlice_apply _ g hs _ _ (fun a => by
      match a with
      | ⟨0, _⟩ => show k.val = 0 + k.val; omega
      | ⟨1, _⟩ => show j.val = j.val + 0; omega
      | ⟨2, _⟩ => show r.val = 0 + r.val; omega)

/-- The result, row by row: the logarithm of all devices' sums of exponentials less all devices' labelled entries. -/
theorem result_apply (s p : FVec Ideal S256 .f32) (g : FVec Ideal S7x2x256 .f32) (r : Fin 256) :
    k0_pay7 (F := Ideal) s p g (ix1 r)
      = Ideal.log (s (ix1 r) + ∑ k : Fin 7, g (ix3 k (0 : Fin 2) r)) - (p (ix1 r) + ∑ k : Fin 7, g (ix3 k (1 : Fin 2) r)) := by
  unfold k0_pay7
  dsimp only
  rw [subf_apply, addf_apply]
  have h0 := others_sum g 0 slices_S7x2x256_o0_0_0_S7x1x256 r
  have h1 := others_sum g 1 slices_S7x2x256_o0_1_0_S7x1x256 r
  refine congrArg₂ (· - ·) (congrArg Ideal.log ?_) (congrArg (p (ix1 r) + ·) h1)
  exact congrArg (s (ix1 r) + ·) h0

end Cert.CrossEntropy

end
-- ==== Proof.AllDevices.lean ====
/-
# What the eight devices compute together

Each device holds 4096 of the 32768 columns of `W`. A device and the seven it receives from are all eight, so the sums it
adds up run over all columns. A label names one of them, so the labelled entries add up to that one entry.
-/
module

public import proofs.«01_k».proof.Proof.OneDevice
public import Idealize.ShloMosaic.Lib.Layout

@[expose] public section

noncomputable section

namespace Cert.CrossEntropy

open Cert.KernelIdeal Cert.KernelIdeal.Gen

open Idealize.ShloMosaic
open Idealize.ShloMosaic.TcCoe
open Idealize.ShloMosaic.ValueIdx

/-! ## Sums over the devices -/

/-- The senders of a device's seven incoming blocks differ from one another, -/
theorem dn_injective (c : Dev nD) : Function.Injective fun k : Fin 7 => dn k c := by
  revert c; decide

/-- and are the other devices. -/
theorem dn_image (c : Dev nD) : (Finset.univ.erase c : Finset (Dev nD)) = Finset.univ.image fun k : Fin 7 => dn k c := by
  revert c; decide

/-- So a device's own number and its seven senders' add up to all eight devices'. -/
theorem own_add_others (f : Dev nD → EReal) (c : Dev nD) : f c + ∑ k : Fin 7, f (dn k c) = ∑ d : Dev nD, f d := by
  rw [← Finset.add_sum_erase Finset.univ f (Finset.mem_univ c), dn_image,
    Finset.sum_image fun _ _ _ _ h => dn_injective c h]

/-- Column `v` of device `d`'s columns, as a column of the whole `W`. -/
def column (d : Dev nD) (v : Fin 4096) : Fin 32768 := ⟨d.val * 4096 + v.val, by have := d.isLt; have := v.isLt; simp only [nD] at *; omega⟩

/-- The devices' columns are all columns, each once. -/
theorem sum_columns (f : Fin 32768 → EReal) : ∑ d : Dev nD, ∑ v : Fin 4096, f (column d v) = ∑ v : Fin 32768, f v := by
  rw [← Fintype.sum_prod_type' (f := fun (d : Fin 8) (v : Fin 4096) => f (column d v))]
  refine Fintype.sum_equiv (finProdFinEquiv (m := 8) (n := 4096)) _ _ fun p => congrArg f (Fin.ext ?_)
  show p.1.val * 4096 + p.2.val = p.2.val + 4096 * p.1.val
  omega

/-! ## Labels -/

/-- A device's place in the mesh is its number. -/
theorem pos_eq (c : Dev nD) : pos c = BitVec.ofNat 32 c.val := by
  revert c; decide

/-- Counted from device `d`'s first column, a label is `v` exactly when it names that column of the whole. -/
theorem label_iff (d : Dev nD) (v : Fin 4096) (l : BitVec 32) (hl : l.toNat < 32768) :
    BitVec.ofNat 32 v.val = l - pos d * 4096#32 ↔ column d v = ⟨l.toNat, hl⟩ := by
  have hd : d.val < 8 := d.isLt
  have hv := v.isLt
  rw [pos_eq, Fin.ext_iff, ← BitVec.toNat_inj]
  show _ ↔ d.val * 4096 + v.val = l.toNat
  rw [BitVec.toNat_sub, BitVec.toNat_mul, BitVec.toNat_ofNat, BitVec.toNat_ofNat, BitVec.toNat_ofNat]
  omega

/-! ## The result -/

variable (m : (ℓ : Loc nD τ sig) → Buf (Elt Ideal) ℓ) (ρ : Dev nD → PrngReg)

/-- Entry `(r, v)` of a device's products is the entry of the whole product at that column. -/
theorem logit_block (X : FVec Ideal S256x512 .f32) (W : FVec Ideal ⟨2, ![512, 32768]⟩ .f32) (d : Dev nD) (r : Fin 256) (v : Fin 4096) :
    logit X (Layout.block ⟨2, ![512, 4096]⟩ ⟨2, ![512, 32768]⟩ 1 8 d W) r v = logit X W r (column d v) := by
  refine Finset.sum_congr rfl fun k _ => ?_
  refine congrArg (X (ix2 r k) * ·) (congrArg W (funext fun a => Fin.ext ?_))
  match a with
  | ⟨0, _⟩ => rfl
  | ⟨1, _⟩ => rfl

variable (X : FVec Ideal S256x512 .f32) (W : FVec Ideal ⟨2, ![512, 32768]⟩ .f32) (l : IVec S256 32)

/-- Every device's result, row by row: the logarithm of the sum of all exponentials of the row, less the labelled entry. -/
theorem outAt_apply (hx : ∀ c : Dev nD, m ((c : Thread nD τ).loc main_arg0) = X)
    (hw : ∀ c : Dev nD, m ((c : Thread nD τ).loc main_arg1) = Layout.block ⟨2, ![512, 4096]⟩ ⟨2, ![512, 32768]⟩ 1 8 c W)
    (hl : ∀ c : Dev nD, m ((c : Thread nD τ).loc main_arg2) = l) (c : Dev nD) (r : Fin 256) (h : (l (ix1 r)).toNat < 32768) :
    outAt m ρ c (ix1 r) = Ideal.log (∑ v : Fin 32768, Ideal.exp (logit X W r v)) - logit X W r ⟨(l (ix1 r)).toNat, h⟩ := by
  have hE (d : Dev nD) : expSum m ρ d (ix1 r) = ∑ v : Fin 4096, Ideal.exp (logit X W r (column d v)) := by
    unfold expSum
    rw [expSum_apply, xstg_eq, wstg_eq, hx, hw]
    exact Finset.sum_congr rfl fun v _ => congrArg Ideal.exp (logit_block X W d r v)
  have hP (d : Dev nD) : picked m ρ d (ix1 r)
      = ∑ v : Fin 4096, if column d v = ⟨(l (ix1 r)).toNat, h⟩ then logit X W r (column d v) else 0 := by
    unfold picked
    rw [picked_apply, xstg_eq, wstg_eq, lstg_eq, hx, hw, hl]
    exact Finset.sum_congr rfl fun v _ => if_congr (label_iff d v _ h) (logit_block X W d r v) rfl
  have hG (k : Fin 7) : gathered m ρ c (ix3 k (0 : Fin 2) r) = expSum m ρ (dn k c) (ix1 r)
      ∧ gathered m ρ c (ix3 k (1 : Fin 2) r) = picked m ρ (dn k c) (ix1 r) := stats_apply _ _ _ _ r
  unfold outAt
  rw [result_apply, Finset.sum_congr rfl fun k _ => (hG k).1, Finset.sum_congr rfl fun k _ => (hG k).2,
    own_add_others (fun d => expSum m ρ d (ix1 r)), own_add_others (fun d => picked m ρ d (ix1 r)),
    Finset.sum_congr rfl fun d _ => hE d, Finset.sum_congr rfl fun d _ => hP d, sum_columns (fun v => Ideal.exp (logit X W r v)),
    sum_columns (fun v => if v = ⟨(l (ix1 r)).toNat, h⟩ then logit X W r v else 0), Finset.sum_ite_eq' Finset.univ, if_pos (Finset.mem_univ _)]

end Cert.CrossEntropy

end
-- ==== Proof.Reference.lean ====
/-
# What the reference computes, in exact arithmetic

The reference takes each row's largest entry away before it exponentiates, and adds it back to the logarithm of the sum. On
real numbers that changes nothing, whatever number is taken away. It then reads the labelled entry of the row, at a place that
a label between 0 and 32767 names itself.
-/
module

public import proofs.«01_k».proof.Proof.AllDevices
public import proofs.«01_k».proof.Proof.Gen.ReferenceIdeal.Run

@[expose] public section

noncomputable section

namespace Cert.CrossEntropy.Reference

open Cert.ReferenceIdeal Cert.ReferenceIdeal.Gen

open Idealize.ShloMosaic
open Idealize.ShloMosaic.ValueIdx

/-! ## Real numbers -/

/-- A sum of real numbers is a real number, the sum of them. -/
theorem sum_real {ι : Type} (s : Finset ι) (f : ι → ℝ) : ∑ i ∈ s, (f i : EReal) = ((∑ i ∈ s, f i : ℝ) : EReal) := by
  classical
  induction s using Finset.induction_on with
  | empty => rfl
  | insert a s ha ih => rw [Finset.sum_insert ha, Finset.sum_insert ha, ih, EReal.coe_add]

/-- The logarithm of a positive real number is its real logarithm. -/
theorem log_real {t : ℝ} (ht : 0 < t) : Ideal.log (t : EReal) = (Real.log t : EReal) :=
  if_neg (not_le.2 ht)

/-- Taking a number away from all exponents, and adding it to the logarithm of the sum, changes nothing. -/
theorem log_sum_shift {n : Nat} (hn : 0 < n) (a : Fin n → ℝ) (M : ℝ) :
    (M : EReal) + Ideal.log (∑ v, Ideal.exp ((a v : EReal) - (M : EReal))) = Ideal.log (∑ v, Ideal.exp (a v : EReal)) := by
  have : Nonempty (Fin n) := ⟨⟨0, hn⟩⟩
  have hS : 0 < ∑ v, Real.exp (a v) := Finset.sum_pos (fun v _ => Real.exp_pos _) Finset.univ_nonempty
  have h1 : ∑ v, Ideal.exp ((a v : EReal) - (M : EReal)) = (((∑ v, Real.exp (a v)) / Real.exp M : ℝ) : EReal) := by
    rw [Finset.sum_div, ← sum_real]
    refine Finset.sum_congr rfl fun v _ => ?_
    rw [← EReal.coe_sub, ← Real.exp_sub]
    rfl
  have h2 : ∑ v, Ideal.exp (a v : EReal) = ((∑ v, Real.exp (a v) : ℝ) : EReal) := sum_real Finset.univ fun v => Real.exp (a v)
  rw [h1, h2, log_real (div_pos hS (Real.exp_pos M)), log_real hS, ← EReal.coe_add,
    Real.log_div hS.ne' (Real.exp_pos M).ne', Real.log_exp, add_sub_cancel]

/-- The largest of some real numbers, sought upwards from −∞, is a real number. -/
theorem max_real {n : Nat} (hn : 0 < n) (a : Fin n → ℝ) :
    ∃ M : ℝ, (Finset.univ : Finset (Fin n)).fold max (⊥ : EReal) (fun v => (a v : EReal)) = (M : EReal) := by
  have hlt : (Finset.univ : Finset (Fin n)).fold max (⊥ : EReal) (fun v => (a v : EReal)) < ⊤ :=
    (Finset.fold_max_lt _).2 ⟨bot_lt_top, fun v _ => EReal.coe_lt_top _⟩
  have hgt : ⊥ < (Finset.univ : Finset (Fin n)).fold max (⊥ : EReal) (fun v => (a v : EReal)) :=
    (Finset.lt_fold_max _).2 (.inr ⟨⟨0, hn⟩, Finset.mem_univ _, EReal.bot_lt_coe _⟩)
  exact ⟨_, (EReal.coe_toReal hlt.ne hgt.ne').symm⟩

/-- Products of matrices of real numbers are real. -/
theorem logit_real {n : Nat} {x : FVec Ideal ⟨2, ![256, 512]⟩ .f32} {w : FVec Ideal ⟨2, ![512, n]⟩ .f32}
    (hx : ∀ i, ∃ a : ℝ, x i = (a : EReal)) (hw : ∀ i, ∃ a : ℝ, w i = (a : EReal)) (r : Fin 256) :
    ∃ a : Fin n → ℝ, ∀ v, logit x w r v = (a v : EReal) := by
  choose f hf using hx
  choose g hg using hw
  refine ⟨fun v => ∑ k : Fin 512, f (ix2 r k) * g (ix2 k v), fun v => ?_⟩
  rw [← sum_real]
  exact Finset.sum_congr rfl fun k _ => by rw [hf, hg, EReal.coe_mul]

/-! ## The stages -/

/-- All the products. -/
abbrev logits (x : FVec Ideal S256x512 .f32) (w : FVec Ideal S512x32768 .f32) : FVec Ideal S256x32768 .f32 :=
  Host.dotGeneral dot_S256x512_S512x32768_S256x32768_1_0_0_1_n_n none x w

/-- Each row's largest. -/
abbrev rowMax (y : FVec Ideal S256x32768 .f32) : FVec Ideal S256 .f32 :=
  Host.reduce FloatOps.maximumf y (constant S_ .f32 0xFF800000#32) reducesTo_S256x32768_S256_d1 h_S_

/-- A number for each row, as a column. -/
abbrev asColumn {α : Type} (y : S256.Idx → α) : S256x1.Idx → α := broadcastInDim S256x1 ![0] bcast_S256_S256x1_0 y

/-- Each row's sum. -/
abbrev rowSum (y : FVec Ideal S256x32768 .f32) : FVec Ideal S256 .f32 :=
  Host.reduceAdd y (constant S_ .f32 0x00000000#32) reducesTo_S256x32768_S256_d1 h_S_

/-- Whole numbers, those below zero moved up by `n`, as a column. -/
abbrev wrapped (n : BitVec 32) (i : IVec S256 32) : IVec S256x1 32 :=
  asColumn (select (cmpi .slt i (broadcastInDim S256 ![] bcast_S_S256 (constantI S_ 32 0#32)))
    (addi i (broadcastInDim S256 ![] bcast_S_S256 (constantI S_ 32 n))) i)

/-- The places to read: row `r`'s is `(r, label)`. -/
abbrev places (l : IVec S256 32) : IVec S256x2 32 :=
  concatenate S256x2 1 [⟨S256x1, wrapped 256#32 (iotaInDim S256 32 0)⟩, ⟨S256x1, wrapped 32768#32 l⟩] concatenates_S256x1_S256x1_S256x2_d1

/-- The reference's result. -/
abbrev result (x : FVec Ideal S256x512 .f32) (w : FVec Ideal S512x32768 .f32) (l : IVec S256 32) : FVec Ideal S256 .f32 :=
  subf (shapeCast _ (addf (asColumn (rowMax (logits x w))) (Host.log (asColumn (rowSum (Host.exp (subf (logits x w)
      (broadcastInDim S256x32768 ![0, 1] bcast_S256x1_S256x32768_0_1 (asColumn (rowMax (logits x w)))))))))) shapeCasts_S256x1_S256)
    (Host.gather gather_S256x32768_S256x2_S256_n_01_n_n_01_1_11 (logits x w) (places l))

/-! ## The stages, entry by entry -/

theorem logits_apply (x : FVec Ideal S256x512 .f32) (w : FVec Ideal S512x32768 .f32) (r : Fin 256) (v : Fin 32768) :
    logits x w (ix2 r v) = logit x w r v :=
  (Ideal.dotGeneral_apply _ _ _ _ _ _).trans (plain_sum x w r v)

/-- A row's entries are those that a reduction along the columns runs over. -/
theorem reduces_columns : S256x32768.Reduces [1] S256 := by decide

theorem lift_eq (r : Fin 256) (v : Fin 32768) : reduces_columns.lift (ix1 r) v = ix2 r v := by
  funext a
  match a with
  | ⟨0, _⟩ => rfl
  | ⟨1, _⟩ => rfl

theorem rowMax_apply (y : FVec Ideal S256x32768 .f32) (r : Fin 256) :
    rowMax y (ix1 r) = (Finset.univ : Finset (Fin 32768)).fold max (⊥ : EReal) fun v => y (ix2 r v) := by
  unfold rowMax
  refine (congrFun (hostReduce_maximumf_eq_multiReduction y 0xFF800000#32 _ _ reduces_columns (.inl rfl) rfl) (ix1 r)).trans ?_
  refine (Ideal.multiReduction_maximumf_single y _ reduces_columns _ _ _).trans ?_
  refine congrArg₂ (fun b f => (Finset.univ : Finset (Fin 32768)).fold max b f) ?_ (funext fun v => congrArg y (lift_eq r v))
  show Ideal.ofBits .f32 0xFF800000#32 = ⊥
  simp [Ideal.ofBits, Ideal.ieee]

theorem rowSum_apply (y : FVec Ideal S256x32768 .f32) (r : Fin 256) : rowSum y (ix1 r) = ∑ v : Fin 32768, y (ix2 r v) := by
  refine (Ideal.hostReduceAdd_single reducesTo_S256x32768_S256_d1 reduces_columns y _ (ix1 r)).trans ?_
  show Ideal.ofBits .f32 0x00000000#32 + _ = _
  rw [Ideal.ofBits_zero_f32, zero_add]
  exact Finset.sum_congr rfl fun v _ => congrArg y (lift_eq r v)

theorem asColumn_apply {α : Type} (y : S256.Idx → α) (r : Fin 256) :
    asColumn y (ix2 r (0 : Fin 1)) = y (ix1 r) :=
  broadcastInDim_apply _ _ y _ _ fun a => by
    match a with
    | ⟨0, _⟩ => rfl

theorem log_apply (y : FVec Ideal S256x1 .f32) (i : S256x1.Idx) : Host.log y i = Ideal.log (y i) := rfl

theorem spread_apply (y : FVec Ideal S256x1 .f32) (r : Fin 256) (v : Fin 32768) :
    broadcastInDim S256x32768 ![0, 1] bcast_S256x1_S256x32768_0_1 y (ix2 r v) = y (ix2 r (0 : Fin 1)) :=
  broadcastInDim_apply _ _ y _ _ fun a => by
    match a with
    | ⟨0, _⟩ => rfl
    | ⟨1, _⟩ => rfl

/-- A number that is not below zero stays where it is. -/
theorem wrapped_apply (n : BitVec 32) (i : IVec S256 32) (r : Fin 256) (h : 0 ≤ (i (ix1 r)).toInt) :
    wrapped n i (ix2 r (0 : Fin 1)) = i (ix1 r) := by
  unfold wrapped
  rw [asColumn_apply, select_apply]
  show Scalar.select (IntOp.cmpi .slt (i (ix1 r)) (0#32)) _ _ = _
  have : IntOp.cmpi .slt (i (ix1 r)) (0#32) ≠ 1#1 := fun e => absurd (IntOp.cmpi_slt.1 e) (not_lt.2 h)
  exact if_neg this

theorem places_row (l : IVec S256 32) (r : Fin 256) : places l (ix2 r (0 : Fin 2)) = BitVec.ofNat 32 r.val := by
  unfold places
  rw [concatenate_pair_apply_left (s₁ := S256x1) (s₂ := S256x1) 1 _ _ _ (ix2 r (0 : Fin 2)) rfl (ix2 r (0 : Fin 1)) (fun b => by
      match b with
      | ⟨0, _⟩ => rfl
      | ⟨1, _⟩ => rfl)]
  refine wrapped_apply _ _ r ?_
  show 0 ≤ (BitVec.ofNat 32 r.val).toInt
  have := r.isLt
  rw [BitVec.toInt_eq_toNat_of_lt (by rw [BitVec.toNat_ofNat]; omega)]
  exact Int.natCast_nonneg _

theorem places_column (l : IVec S256 32) (r : Fin 256) (h : 0 ≤ (l (ix1 r)).toInt) : places l (ix2 r (1 : Fin 2)) = l (ix1 r) := by
  unfold places
  rw [concatenate_pair_apply_right (s₁ := S256x1) (s₂ := S256x1) 1 _ _ _ (ix2 r (1 : Fin 2)) rfl rfl (ix2 r (0 : Fin 1)) (fun b hb => by
      match b with
      | ⟨0, _⟩ => rfl
      | ⟨1, _⟩ => exact absurd rfl hb) rfl]
  exact wrapped_apply _ _ r h

/-- On each axis, the place the reading for row `r` starts at is the one given, kept within the array. -/
theorem start_eq (i : IVec S256x2 32) (r : Fin 256) (a : Fin 2) :
    gather_S256x32768_S256x2_S256_n_01_n_n_01_1_11.start (ix1 r) i a = min (i (ix2 r a)).toInt.toNat (S256x32768.size a - 1) := by
  have hin : a ∈ gather_S256x32768_S256x2_S256_n_01_n_n_01_1_11.startIndexMap := by revert a; decide
  unfold GatherDims.start
  rw [dif_pos hin]
  match a, hin with
  | ⟨0, _⟩, _ =>
    refine congrArg (fun p => min (i p).toInt.toNat 255) (funext fun b => Fin.ext ?_)
    match b with
    | ⟨0, _⟩ => rfl
    | ⟨1, _⟩ => rfl
  | ⟨1, _⟩, _ =>
    refine congrArg (fun p => min (i p).toInt.toNat 32767) (funext fun b => Fin.ext ?_)
    match b with
    | ⟨0, _⟩ => rfl
    | ⟨1, _⟩ => rfl

/-- Row `r` of what is read is the entry at the place given for it, when that lies within the array. -/
theorem gather_apply (y : FVec Ideal S256x32768 .f32) (i : IVec S256x2 32) (r q : Fin 256) (v : Fin 32768)
    (hq : (i (ix2 r (0 : Fin 2))).toInt = q.val) (hv : (i (ix2 r (1 : Fin 2))).toInt = v.val) :
    Host.gather gather_S256x32768_S256x2_S256_n_01_n_n_01_1_11 y i (ix1 r) = y (ix2 q v) := by
  unfold Host.gather
  refine congrArg y (funext fun a => Fin.ext ?_)
  show GatherDims.start _ (ix1 r) i a + GatherDims.batchCoord _ (ix1 r) a + GatherDims.offCoord _ (ix1 r) a = _
  have hin : a ∈ gather_S256x32768_S256x2_S256_n_01_n_n_01_1_11.collapsedSliceDims := by revert a; decide
  rw [start_eq, GatherDims.batchCoord_eq_zero _ _ _ List.not_mem_nil,
    GatherDims.offCoord_eq_zero _ _ _ fun h => ((GatherDims.mem_sKept _ _).1 h).1 hin]
  match a with
  | ⟨0, _⟩ =>
    show min (i (ix2 r (0 : Fin 2))).toInt.toNat 255 + 0 + 0 = q.val
    rw [hq]; have := q.isLt; omega
  | ⟨1, _⟩ =>
    show min (i (ix2 r (1 : Fin 2))).toInt.toNat 32767 + 0 + 0 = v.val
    rw [hv]; have := v.isLt; omega

/-! ## The result -/

/-- The reference's result, row by row, on real numbers and labels that name a column: the logarithm of the sum of all
    exponentials of the row, less the labelled entry. -/
theorem result_apply (x : FVec Ideal S256x512 .f32) (w : FVec Ideal S512x32768 .f32) (l : IVec S256 32)
    (hx : ∀ i, ∃ a : ℝ, x i = (a : EReal)) (hw : ∀ i, ∃ a : ℝ, w i = (a : EReal)) (r : Fin 256) (h : (l (ix1 r)).toNat < 32768) :
    result x w l (ix1 r) = Ideal.log (∑ v : Fin 32768, Ideal.exp (logit x w r v)) - logit x w r ⟨(l (ix1 r)).toNat, h⟩ := by
  obtain ⟨a, ha⟩ := logit_real hx hw r
  obtain ⟨M, hM⟩ := max_real (n := 32768) (by omega) a
  have hmax : rowMax (logits x w) (ix1 r) = (M : EReal) := by
    rw [rowMax_apply, ← hM]
    exact congrArg ((Finset.univ : Finset (Fin 32768)).fold max ⊥) (funext fun v => (logits_apply x w r v).trans (ha v))
  have hlab : (l (ix1 r)).toInt = (l (ix1 r)).toNat := BitVec.toInt_eq_toNat_of_lt (by omega)
  have hrow : (BitVec.ofNat 32 r.val).toInt = r.val := by
    have := r.isLt
    rw [BitVec.toInt_eq_toNat_of_lt (by rw [BitVec.toNat_ofNat]; omega), BitVec.toNat_ofNat, Nat.mod_eq_of_lt (by omega)]
  unfold result
  rw [subf_apply, gather_apply _ _ r r ⟨(l (ix1 r)).toNat, h⟩ ((congrArg BitVec.toInt (places_row l r)).trans hrow)
      ((congrArg BitVec.toInt (places_column l r (hlab ▸ Int.natCast_nonneg _))).trans hlab), logits_apply]
  refine congrArg (· - logit x w r ⟨(l (ix1 r)).toNat, h⟩) ?_
  rw [column_apply, addf_apply, log_apply, asColumn_apply, asColumn_apply, hmax, rowSum_apply, Finset.sum_congr rfl fun v _ => congrArg Ideal.exp (ha v),
    ← log_sum_shift (by omega) a M]
  refine congrArg (fun s => (M : EReal) + Ideal.log s) (Finset.sum_congr rfl fun v _ => congrArg Ideal.exp ?_)
  rw [subf_apply, logits_apply, ha, spread_apply, asColumn_apply, hmax]

end Cert.CrossEntropy.Reference

end
-- ==== Proof.Inputs.lean ====
/-
# What the precondition says of the arguments

Its comparisons, all true, say three things. No entry of `x` is infinite. No entry of a device's block of `W` is, so none of
`W` is, of which every entry lies in some device's block. And every label names one of the 32768 columns.
-/
module

public import proofs.«01_k».proof.Defs
public import proofs.«01_k».proof.Proof.AllDevices

@[expose] public section

noncomputable section

namespace Cert.CrossEntropy

open Idealize.ShloMosaic
open Idealize.ShloMosaic.TcCoe
open Idealize.ShloMosaic.ValueIdx

/-! ## One entry -/

/-- A number whose absolute value is below +∞ is real. -/
theorem real_of_abs_lt (a : EReal) (h : FloatOps.cmpf (F := Ideal) (φ := .f32) .olt (FloatOps.absf (F := Ideal) (φ := .f32) a) (Ideal.ofBits .f32 0x7F800000#32) = 1#1) :
    ∃ b : ℝ, a = (b : EReal) := by
  have htop : Ideal.ofBits .f32 0x7F800000#32 = ⊤ := by simp [Ideal.ofBits, Ideal.ieee]
  have hlt : max a (-a) < ⊤ := by
    by_contra hn
    rw [htop] at h
    have : BitVec.ofBool (decide (max a (-a) < ⊤)) = 1#1 := h
    rw [decide_eq_false hn] at this
    exact absurd this (by decide)
  refine ⟨a.toReal, (EReal.coe_toReal (lt_of_le_of_lt (le_max_left _ _) hlt).ne fun e => ?_).symm⟩
  rw [e, EReal.neg_bot] at hlt
  exact absurd (lt_of_le_of_lt (le_max_right _ _) hlt) (lt_irrefl _)

/-- A label that is at least 0 and below 32768, read with a sign, is below 32768 read without one. -/
theorem label_lt (a : BitVec 32) (h : IntOp.cmpi .sge a 0#32 &&& IntOp.cmpi .slt a 32768#32 = 1#1) : a.toNat < 32768 := by
  have split : ∀ p q : BitVec 1, p &&& q = 1#1 → p = 1#1 ∧ q = 1#1 := by decide
  obtain ⟨h0, h1⟩ := split _ _ h
  have h0 : (0#32).toInt ≤ a.toInt := IntOp.cmpi_sge.1 h0
  have h1 : a.toInt < (32768#32).toInt := IntOp.cmpi_slt.1 h1
  have e0 : (0#32).toInt = 0 := by decide
  have e1 : (32768#32).toInt = 32768 := by decide
  rw [e0] at h0
  rw [e1] at h1
  rw [BitVec.toInt_eq_toNat_cond] at h0 h1
  have := a.isLt
  split at h0 <;> omega

/-! ## The arguments -/

/-- The shape relations of the precondition's own operations, on a device's arguments, -/
theorem facts_block : Cert.Pre_finite_and_labelled_KernelIdeal.Facts := ⟨by decide, by decide, by decide⟩

/-- and on the whole ones. -/
theorem facts_whole : Cert.Pre_finite_and_labelled_ReferenceIdeal.Facts := ⟨by decide, by decide, by decide⟩

/-- What the precondition says of one device's arguments. -/
theorem device_inputs {m : (ℓ : Loc Cert.KernelIdeal.nD Cert.KernelIdeal.τ Cert.KernelIdeal.sig) → Buf (Elt Ideal) ℓ}
    (h : Cert.Pre_KernelIdeal_finite_and_labelled_KernelIdeal (hPre_finite_and_labelled_KernelIdeal := facts_block) m) (c : Dev Cert.KernelIdeal.nD) :
    (∀ i, ∃ a : ℝ, m ((c : Thread Cert.KernelIdeal.nD Cert.KernelIdeal.τ).loc Cert.KernelIdeal.main_arg0) i = (a : EReal))
      ∧ (∀ i, ∃ a : ℝ, m ((c : Thread Cert.KernelIdeal.nD Cert.KernelIdeal.τ).loc Cert.KernelIdeal.main_arg1) i = (a : EReal))
      ∧ ∀ i, (m ((c : Thread Cert.KernelIdeal.nD Cert.KernelIdeal.τ).loc Cert.KernelIdeal.main_arg2) i : BitVec 32).toNat < 32768 :=
  ⟨fun i => real_of_abs_lt _ (congrFun (h c).1 i), fun i => real_of_abs_lt _ (congrFun (h c).2.1 i),
    fun i => label_lt _ (congrFun (h c).2.2 i)⟩

/-- Every column is some device's. -/
theorem column_surjective (v : Fin 32768) : ∃ (d : Dev Cert.KernelIdeal.nD) (u : Fin 4096), column d u = v := by
  have hv := v.isLt
  refine ⟨(⟨v.val / 4096, by omega⟩ : Fin 8), ⟨v.val % 4096, by omega⟩, Fin.ext ?_⟩
  show v.val / 4096 * 4096 + v.val % 4096 = v.val
  omega

/-- If no block of `W` has an infinite entry, neither has `W`. -/
theorem whole_real (W : FVec Ideal ⟨2, ![512, 32768]⟩ .f32)
    (h : ∀ (d : Dev Cert.KernelIdeal.nD) (i : Shape.Idx ⟨2, ![512, 4096]⟩),
      ∃ a : ℝ, (Layout.block ⟨2, ![512, 4096]⟩ ⟨2, ![512, 32768]⟩ 1 8 d W : FVec Ideal ⟨2, ![512, 4096]⟩ .f32) i = (a : EReal)) (i) :
    ∃ a : ℝ, W i = (a : EReal) := by
  obtain ⟨d, u, hu⟩ := column_surjective (i 1)
  obtain ⟨a, ha⟩ := h d (ix2 (i 0 : Fin 512) u)
  refine ⟨a, Eq.trans (congrArg W (funext fun b => Fin.ext ?_)) ha⟩
  match b with
  | ⟨0, _⟩ => rfl
  | ⟨1, _⟩ => exact (congrArg Fin.val hu).symm

end Cert.CrossEntropy

end
-- ==== Proof.lean ====
/-
# The claims

The frames of the three programs, the frames again under the precondition, the idealization's faithfulness, and the equality
of the kernel's result with the reference's. They are assembled at the end into the certificate's one theorem.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Results
public import proofs.«01_k».proof.Proof.AllDevices
public import proofs.«01_k».proof.Proof.Reference
public import proofs.«01_k».proof.Proof.Inputs
public import Idealize.ShloMosaic.Adequacy
public import Idealize.ShloMosaic.Init

@[expose] public section

noncomputable section

namespace Cert.Proof

open Idealize.ShloMosaic Idealize.SL.Sem Cert.CrossEntropy

/-- A final state of the kernel's run has every argument array as it began and every semaphore at zero. -/
theorem kept {F : FTy → Type} [FloatOps F] {m : (ℓ : Loc Cert.KernelIdeal.nD Cert.KernelIdeal.τ Cert.KernelIdeal.sig) → Buf (Elt F) ℓ}
    {ρ : Dev Cert.KernelIdeal.nD → PrngReg} {r} (h : QC m ρ r) (c : Dev Cert.KernelIdeal.nD) :
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2) :=
  ⟨(h c (0 : Fin 4)).trans (finalA_arg m ρ c (0 : Fin 4) rfl), (h c (1 : Fin 4)).trans (finalA_arg m ρ c (1 : Fin 4) rfl),
    (h c (2 : Fin 4)).trans (finalA_arg m ρ c (2 : Fin 4) rfl)⟩

/-- The kernel in exact arithmetic: every device finishes, no transfer or wait goes wrong, `x`, `W` and the labels end as they
    began, and every semaphore is back at zero. -/
theorem frame_kernelIdeal : Cert.quiescent_KernelIdeal := fun m ρ _ =>
  (θ_run Cert.KernelIdeal.defs _ _).mono (fun _ h => ⟨kept h.1, h.2⟩) (run_main (F := Ideal) m ρ)

/-- The kernel as executed and the kernel read in exact arithmetic are the same program text. -/
theorem bodies_eq : Cert.Kernel.defs₀ (F := Bits) = Cert.KernelIdeal.defs₀ (F := Bits) := by
  refine congrArg Defs.onTc ?_
  funext l
  match l with
  | ⟨0, _⟩ => rfl
  | ⟨_ + 1, h⟩ => exact absurd h (Nat.not_lt.2 (Nat.le_add_left _ _))

/-- So their tables of bodies, the launch's included, agree. -/
theorem tables_eq : Cert.Kernel.defs (F := Bits) = Cert.KernelIdeal.defs (F := Bits) :=
  congrArg (Idealize.ShloMosaic.Pipeline.defs (Cert.KernelIdeal.pcfgs (F := Bits))) bodies_eq

/-- The kernel as it is executed, on machine words: the same four facts. -/
theorem frame_kernel : Cert.quiescent_Kernel := fun m ρ _ => by
  rw [tables_eq]
  exact (θ_run Cert.KernelIdeal.defs _ _).mono (fun _ h => ⟨kept h.1, h.2⟩) (run_main (F := Bits) m ρ)

/-- The reference: a straight line of host operations on one device, which keeps its arguments and has no semaphore. -/
theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The idealization replaces no operation of the kernel. -/
theorem preserves_kernel : Cert.preserves_Kernel_KernelIdeal := trivial

/-- On real numbers and labels that name a column, every device ends with the reference's result: row by row, the logarithm of
    the sum of all exponentials of the products, less the product in the labelled column. Both keep their arguments. -/
theorem algebraic_kernel :
    Cert.algebraic_KernelIdeal_ReferenceIdeal_pre_finite_and_labelled_KernelIdeal (hPre_finite_and_labelled_KernelIdeal := facts_block) := by
  intro m ρ m' ρ' hpre harg
  have hx := fun c => (harg c).1
  have hw := fun c => (harg c).2.1
  have hl := fun c => (harg c).2.2
  have hxr := fun i => (hx 0) ▸ (device_inputs hpre 0).1 i
  have hwr := whole_real _ fun d i => (hw d) ▸ (device_inputs hpre d).2.1 i
  have hlr := fun i => (hl 0) ▸ (device_inputs hpre 0).2.2 i
  refine ⟨Cert.CrossEntropy.Reference.result _ _ _,
    (θ_run Cert.KernelIdeal.defs _ _).mono (fun r h c => ⟨?_, kept h.1 c⟩) (run_main (F := Ideal) m ρ),
    (θ_run Cert.ReferenceIdeal.defs _ _).mono (fun _ h => h 0) (Cert.ReferenceIdeal.Value.run (F := Ideal) m' ρ')⟩
  refine ((h.1 c (3 : Fin 4)).trans (finalA_out m ρ c)).trans (funext fun i => ?_)
  obtain ⟨r, rfl⟩ : ∃ r : Fin 256, i = ValueIdx.ix1 r := ⟨i 0, ValueIdx.eq_ix1 i⟩
  exact (outAt_apply m ρ _ _ _ hx hw hl c r (hlr _)).trans (Cert.CrossEntropy.Reference.result_apply _ _ _ hxr hwr r (hlr _)).symm

/-- All the claims. The frames under the precondition are the frames without it. -/
theorem claim : Cert.Claim :=
  ⟨Cert.Kernel.Gen.facts, Cert.KernelIdeal.Gen.facts, Cert.ReferenceIdeal.Gen.facts, facts_block, facts_whole,
    frame_kernel, frame_kernelIdeal, fun m ρ _ => frame_kernelIdeal m ρ trivial,
    frame_referenceIdeal, fun m ρ _ => frame_referenceIdeal m ρ trivial, preserves_kernel, algebraic_kernel⟩

end Cert.Proof

end
